-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_and_above_minus_infinity [hPre_sorted_and_above_minus_infinity : Cert.Pre_sorted_and_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_and_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_and_above_minus_infinity [hPre_sorted_and_above_minus_infinity : Cert.Pre_sorted_and_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_and_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sorted_and_above_minus_infinity [hKernelIdeal : Cert.KernelIdeal.Facts] [hPre_sorted_and_above_minus_infinity : Cert.Pre_sorted_and_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_and_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sorted_and_above_minus_infinity [hReferenceIdeal : Cert.ReferenceIdeal.Facts] [hPre_sorted_and_above_minus_infinity : Cert.Pre_sorted_and_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_and_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sorted_and_above_minus_infinity [hKernelIdeal : Cert.KernelIdeal.Facts] [hReferenceIdeal : Cert.ReferenceIdeal.Facts] [hPre_sorted_and_above_minus_infinity : Cert.Pre_sorted_and_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_and_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sorted_and_above_minus_infinity : Cert.Pre_sorted_and_above_minus_infinity.Facts),
    quiescent_Kernel (hKernel := hKernel)
    ∧ quiescent_KernelIdeal (hKernelIdeal := hKernelIdeal)
    ∧ quiescent_KernelIdeal_pre_sorted_and_above_minus_infinity (hKernelIdeal := hKernelIdeal) (hPre_sorted_and_above_minus_infinity := hPre_sorted_and_above_minus_infinity)
    ∧ quiescent_ReferenceIdeal (hReferenceIdeal := hReferenceIdeal)
    ∧ quiescent_ReferenceIdeal_pre_sorted_and_above_minus_infinity (hReferenceIdeal := hReferenceIdeal) (hPre_sorted_and_above_minus_infinity := hPre_sorted_and_above_minus_infinity)
    ∧ preserves_Kernel_KernelIdeal
    ∧ algebraic_KernelIdeal_ReferenceIdeal_pre_sorted_and_above_minus_infinity (hKernelIdeal := hKernelIdeal) (hReferenceIdeal := hReferenceIdeal) (hPre_sorted_and_above_minus_infinity := hPre_sorted_and_above_minus_infinity)
-- ==== Pre_sorted_and_above_minus_infinity.lean ====
abbrev S100000x128 : Shape := ⟨2, ![100000, 128]⟩
abbrev S100000x3 : Shape := ⟨2, ![100000, 3]⟩
abbrev S100000 : Shape := ⟨1, ![100000]⟩
abbrev S131x128 : Shape := ⟨2, ![131, 128]⟩
abbrev S128 : Shape := ⟨1, ![128]⟩
abbrev S1 : Shape := ⟨1, ![1]⟩
abbrev S99999 : Shape := ⟨1, ![99999]⟩
abbrev S100000x131 : Shape := ⟨2, ![100000, 131]⟩
abbrev S1x128 : Shape := ⟨2, ![1, 128]⟩
abbrev S100000x1 : Shape := ⟨2, ![100000, 1]⟩
abbrev S_ : Shape := ⟨0, ![]⟩

class Facts : Prop where
  slices_S100000_S1_0 : S100000.Slices ![0] S1
  slices_S100000_S99999_0 : S100000.Slices ![0] S99999
  concatenates_S1_S99999_S100000_d0 : Shape.Concatenates [S1, S99999] S100000 0
  concatenates_S100000x128_S100000x3_S100000x131_d1 : Shape.Concatenates [S100000x128, S100000x3] S100000x131 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  dot_S100000x131_S131x128_S100000x128_1_0_0_1_n_n_wf : DotDims.WF S100000x131 S131x128 S100000x128 [1] [0] [0] [1] [] []

variable [Facts]

def dot_S100000x131_S131x128_S100000x128_1_0_0_1_n_n : DotDims S100000x131 S131x128 S100000x128 where
  lhsContracting := [1]
  rhsContracting := [0]
  lhsNonContracting := [0]
  rhsNonContracting := [1]
  lhsBatch := []
  rhsBatch := []
  wf := dot_S100000x131_S131x128_S100000x128_1_0_0_1_n_n_wf
def fn {F : FTy → Type} [FloatOps F] (main_arg0 : FVec F S100000x128 .f32) (main_arg1 : FVec F S100000x3 .f32) (main_arg2 : IVec S100000 32) (main_arg3 : FVec F S131x128 .f32) (main_arg4 : FVec F S128 .f32) : IVec S100000x128 1 :=
  let main_v0 : IVec S1 32 := (extractStridedSlice S1 ![0] · slices_S100000_S1_0) main_arg2
  let main_v1 : IVec S99999 32 := (extractStridedSlice S99999 ![0] · slices_S100000_S99999_0) main_arg2
  let main_v2 : IVec S100000 32 := (fun a b => concatenate S100000 0 [⟨S1, a⟩, ⟨S99999, b⟩] concatenates_S1_S99999_S100000_d0) main_v0 main_v1
  let main_v3 : FVec F S100000x131 .f32 := (fun a b => concatenate S100000x131 1 [⟨S100000x128, a⟩, ⟨S100000x3, b⟩] concatenates_S100000x128_S100000x3_S100000x131_d1) main_arg0 main_arg1
  let main_v4 : FVec F S100000x128 .f32 := (fun l r => Host.dotGeneral dot_S100000x131_S131x128_S100000x128_1_0_0_1_n_n none l r) main_v3 main_arg3
  let main_v5 : FVec F S1x128 .f32 := broadcastInDim S1x128 ![1] bcast_S128_S1x128_1 main_arg4
  let main_v6 : FVec F S100000x128 .f32 := broadcastInDim S100000x128 ![0, 1] bcast_S1x128_S100000x128_0_1 main_v5
  let main_v7 : FVec F S100000x128 .f32 := addf main_v4 main_v6
  let main_v8 : IVec S100000 1 := cmpi .sle main_v2 main_arg2
  let main_v9 : IVec S100000x1 1 := broadcastInDim S100000x1 ![0] bcast_S100000_S100000x1_0 main_v8
  let main_cst : FVec F S_ .f32 := constant S_ .f32 0xFF800000#32
  let main_v10 : FVec F S100000x128 .f32 := broadcastInDim S100000x128 ![] bcast_S_S100000x128 main_cst
  let main_v11 : IVec S100000x128 1 := cmpf .ogt main_v7 main_v10
  let main_v12 : IVec S100000x128 1 := broadcastInDim S100000x128 ![0, 1] bcast_S100000x1_S100000x128_0_1 main_v9
  let main_v13 : IVec S100000x128 1 := andi main_v12 main_v11
  main_v13
-- ==== Kernel.lean ====
abbrev S100000x128 : Shape := ⟨2, ![100000, 128]⟩
abbrev S100000x3 : Shape := ⟨2, ![100000, 3]⟩
abbrev S100000 : Shape := ⟨1, ![100000]⟩
abbrev S131x128 : Shape := ⟨2, ![131, 128]⟩
abbrev S128 : Shape := ⟨1, ![128]⟩
abbrev S128x128 : Shape := ⟨2, ![128, 128]⟩
abbrev S3x128 : Shape := ⟨2, ![3, 128]⟩
abbrev S1x128 : Shape := ⟨2, ![1, 128]⟩
abbrev S4x128 : Shape := ⟨2, ![4, 128]⟩
abbrev S3x100000 : Shape := ⟨2, ![3, 100000]⟩
abbrev S_ : Shape := ⟨0, ![]⟩
abbrev S1x100000 : Shape := ⟨2, ![1, 100000]⟩
abbrev S4x100000 : Shape := ⟨2, ![4, 100000]⟩
abbrev S4x100480 : Shape := ⟨2, ![4, 100480]⟩
abbrev S100480 : Shape := ⟨1, ![100480]⟩
abbrev S5x8x2512 : Shape := ⟨3, ![5, 8, 2512]⟩
abbrev S16x128 : Shape := ⟨2, ![16, 128]⟩
abbrev S20096x128 : Shape := ⟨2, ![20096, 128]⟩
abbrev S4x20096 : Shape := ⟨2, ![4, 20096]⟩
abbrev S1x8x2512 : Shape := ⟨3, ![1, 8, 2512]⟩
abbrev S157x128x128 : Shape := ⟨3, ![157, 128, 128]⟩
abbrev S157x128 : Shape := ⟨2, ![157, 128]⟩
abbrev S8x2512 : Shape := ⟨2, ![8, 2512]⟩
abbrev S1x1 : Shape := ⟨2, ![1, 1]⟩
abbrev S157x1 : Shape := ⟨2, ![157, 1]⟩
abbrev S128x1 : Shape := ⟨2, ![128, 1]⟩
abbrev S1 : Shape := ⟨1, ![1]⟩
abbrev S1x1x1 : Shape := ⟨3, ![1, 1, 1]⟩
abbrev S16x3 : Shape := ⟨2, ![16, 3]⟩
abbrev S16 : Shape := ⟨1, ![16]⟩

abbrev nBuf : Space → Nat
  | .hbm => 24
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S100000, .i32⟩
  | .hbm, ⟨3, _⟩ => ⟨S131x128, .f32⟩
  | .hbm, ⟨4, _⟩ => ⟨S128, .f32⟩
  | .hbm, ⟨5, _⟩ => ⟨S128x128, .f32⟩
  | .hbm, ⟨6, _⟩ => ⟨S3x128, .f32⟩
  | .hbm, ⟨7, _⟩ => ⟨S1x128, .f32⟩
  | .hbm, ⟨8, _⟩ => ⟨S4x128, .f32⟩
  | .hbm, ⟨9, _⟩ => ⟨S3x100000, .f32⟩
  | .hbm, ⟨10, _⟩ => ⟨S_, .f32⟩
  | .hbm, ⟨11, _⟩ => ⟨S1x100000, .f32⟩
  | .hbm, ⟨12, _⟩ => ⟨S4x100000, .f32⟩
  | .hbm, ⟨13, _⟩ => ⟨S_, .i32⟩
  | .hbm, ⟨14, _⟩ => ⟨S_, .f32⟩
  | .hbm, ⟨15, _⟩ => ⟨S4x100480, .f32⟩
  | .hbm, ⟨16, _⟩ => ⟨S_, .i32⟩
  | .hbm, ⟨17, _⟩ => ⟨S_, .i32⟩
  | .hbm, ⟨18, _⟩ => ⟨S100480, .i32⟩
  | .hbm, ⟨19, _⟩ => ⟨S5x8x2512, .i32⟩
  | .hbm, ⟨20, _⟩ => ⟨S16x128, .f32⟩
  | .hbm, ⟨21, _⟩ => ⟨S_, .f32⟩
  | .hbm, ⟨22, _⟩ => ⟨S16x3, .f32⟩
  | .hbm, ⟨23, _⟩ => ⟨S16, .i32⟩
  | .local _ .vmem, ⟨0, _⟩ => ⟨S20096x128, .f32⟩
  | .local _ .vmem, ⟨1, _⟩ => ⟨S20096x128, .f32⟩
  | .local _ .vmem, ⟨2, _⟩ => ⟨S4x20096, .f32⟩
  | .local _ .vmem, ⟨3, _⟩ => ⟨S4x20096, .f32⟩
  | .local _ .vmem, ⟨4, _⟩ => ⟨S1x8x2512, .i32⟩
  | .local _ .vmem, ⟨5, _⟩ => ⟨S1x8x2512, .i32⟩
  | .local _ .vmem, ⟨6, _⟩ => ⟨S128x128, .f32⟩
  | .local _ .vmem, ⟨7, _⟩ => ⟨S4x128, .f32⟩
  | .local _ .vmem, ⟨8, _⟩ => ⟨S16x128, .f32⟩
  | .local _ .vmem, ⟨9, _⟩ => ⟨S20096x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![5], ![false]⟩

def k0_off1 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond2 (v21 : BitVec 32) (v23 : BitVec 32) : BitVec 1 :=
  let c0_i32_15 : BitVec 32 := 0#32
  let v28 : BitVec 1 := Scalar.cmpi .sle v21 c0_i32_15
  let c0_i32_16 : BitVec 32 := 0#32
  let v29 : BitVec 1 := Scalar.cmpi .sge v23 c0_i32_16
  let v30 : BitVec 1 := Scalar.andi v28 v29
  let v31 : BitVec 32 := Scalar.extui v30
  let c0_i32_17 : BitVec 32 := 0#32
  let v32 : BitVec 1 := Scalar.cmpi .ne v31 c0_i32_17
  v32

def k0_chk1 (v21 : BitVec 32) (v23 : BitVec 32) (v117 : BitVec 32) : Prop :=
  (∀ (k0_h2 : k0_cond2 v21 v23 = 1#1), ∀ a, (k0_off1 v117) a + S128x128.size a ≤ S20096x128.size a)
theorem k0_off1_inb : ∀ (v21 : BitVec 32) (v23 : BitVec 32) (v117 : BitVec 32) (k0_hw1 : k0_chk1 v21 v23 v117), ∀ (k0_h2 : k0_cond2 v21 v23 = 1#1), ∀ a, (k0_off1 v117) a + S128x128.size a ≤ S20096x128.size a := fun v21 v23 v117 k0_hw1 k0_h2 => k0_hw1 k0_h2

def k0_off2 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk2 (v21 : BitVec 32) (v23 : BitVec 32) (v124 : BitVec 32) : Prop :=
  (∀ (k0_h2 : k0_cond2 v21 v23 = 1#1), ∀ a, (k0_off2 v124) a + S128x128.size a ≤ S20096x128.size a)
theorem k0_off2_inb : ∀ (v21 : BitVec 32) (v23 : BitVec 32) (v124 : BitVec 32) (k0_hw2 : k0_chk2 v21 v23 v124), ∀ (k0_h2 : k0_cond2 v21 v23 = 1#1), ∀ a, (k0_off2 v124) a + S128x128.size a ≤ S20096x128.size a := fun v21 v23 v124 k0_hw2 k0_h2 => k0_hw2 k0_h2

def k0_off3 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond3 (v21 : BitVec 32) (v23 : BitVec 32) : BitVec 1 :=
  let c1_i32 : BitVec 32 := 1#32
  let v33 : BitVec 1 := Scalar.cmpi .sle v21 c1_i32
  let c1_i32_18 : BitVec 32 := 1#32
  let v34 : BitVec 1 := Scalar.cmpi .sge v23 c1_i32_18
  let v35 : BitVec 1 := Scalar.andi v33 v34
  let v36 : BitVec 32 := Scalar.extui v35
  let c0_i32_19 : BitVec 32 := 0#32
  let v37 : BitVec 1 := Scalar.cmpi .ne v36 c0_i32_19
  v37

def k0_chk3 (v21 : BitVec 32) (v23 : BitVec 32) (v117 : BitVec 32) : Prop :=
  (∀ (k0_h3 : k0_cond3 v21 v23 = 1#1), ∀ a, (k0_off3 v117) a + S128x128.size a ≤ S20096x128.size a)
theorem k0_off3_inb : ∀ (v21 : BitVec 32) (v23 : BitVec 32) (v117 : BitVec 32) (k0_hw3 : k0_chk3 v21 v23 v117), ∀ (k0_h3 : k0_cond3 v21 v23 = 1#1), ∀ a, (k0_off3 v117) a + S128x128.size a ≤ S20096x128.size a := fun v21 v23 v117 k0_hw3 k0_h3 => k0_hw3 k0_h3

def k0_off4 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk4 (v21 : BitVec 32) (v23 : BitVec 32) (v124 : BitVec 32) : Prop :=
  (∀ (k0_h3 : k0_cond3 v21 v23 = 1#1), ∀ a, (k0_off4 v124) a + S128x128.size a ≤ S20096x128.size a)
theorem k0_off4_inb : ∀ (v21 : BitVec 32) (v23 : BitVec 32) (v124 : BitVec 32) (k0_hw4 : k0_chk4 v21 v23 v124), ∀ (k0_h3 : k0_cond3 v21 v23 = 1#1), ∀ a, (k0_off4 v124) a + S128x128.size a ≤ S20096x128.size a := fun v21 v23 v124 k0_hw4 k0_h3 => k0_hw4 k0_h3

def k0_off5 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond4 (v21 : BitVec 32) (v23 : BitVec 32) : BitVec 1 :=
  let c2_i32 : BitVec 32 := 2#32
  let v38 : BitVec 1 := Scalar.cmpi .sle v21 c2_i32
  let c2_i32_20 : BitVec 32 := 2#32
  let v39 : BitVec 1 := Scalar.cmpi .sge v23 c2_i32_20
  let v40 : BitVec 1 := Scalar.andi v38 v39
  let v41 : BitVec 32 := Scalar.extui v40
  let c0_i32_21 : BitVec 32 := 0#32
  let v42 : BitVec 1 := Scalar.cmpi .ne v41 c0_i32_21
  v42

def k0_chk5 (v21 : BitVec 32) (v23 : BitVec 32) (v117 : BitVec 32) : Prop :=
  (∀ (k0_h4 : k0_cond4 v21 v23 = 1#1), ∀ a, (k0_off5 v117) a + S128x128.size a ≤ S20096x128.size a)
theorem k0_off5_inb : ∀ (v21 : BitVec 32) (v23 : BitVec 32) (v117 : BitVec 32) (k0_hw5 : k0_chk5 v21 v23 v117), ∀ (k0_h4 : k0_cond4 v21 v23 = 1#1), ∀ a, (k0_off5 v117) a + S128x128.size a ≤ S20096x128.size a := fun v21 v23 v117 k0_hw5 k0_h4 => k0_hw5 k0_h4

def k0_off6 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk6 (v21 : BitVec 32) (v23 : BitVec 32) (v124 : BitVec 32) : Prop :=
  (∀ (k0_h4 : k0_cond4 v21 v23 = 1#1), ∀ a, (k0_off6 v124) a + S128x128.size a ≤ S20096x128.size a)
theorem k0_off6_inb : ∀ (v21 : BitVec 32) (v23 : BitVec 32) (v124 : BitVec 32) (k0_hw6 : k0_chk6 v21 v23 v124), ∀ (k0_h4 : k0_cond4 v21 v23 = 1#1), ∀ a, (k0_off6 v124) a + S128x128.size a ≤ S20096x128.size a := fun v21 v23 v124 k0_hw6 k0_h4 => k0_hw6 k0_h4

def k0_off7 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond5 (v21 : BitVec 32) (v23 : BitVec 32) : BitVec 1 :=
  let c3_i32 : BitVec 32 := 3#32
  let v43 : BitVec 1 := Scalar.cmpi .sle v21 c3_i32
  let c3_i32_22 : BitVec 32 := 3#32
  let v44 : BitVec 1 := Scalar.cmpi .sge v23 c3_i32_22
  let v45 : BitVec 1 := Scalar.andi v43 v44
  let v46 : BitVec 32 := Scalar.extui v45
  let c0_i32_23 : BitVec 32 := 0#32
  let v47 : BitVec 1 := Scalar.cmpi .ne v46 c0_i32_23
  v47

def k0_chk7 (v21 : BitVec 32) (v23 : BitVec 32) (v117 : BitVec 32) : Prop :=
  (∀ (k0_h5 : k0_cond5 v21 v23 = 1#1), ∀ a, (k0_off7 v117) a + S128x128.size a ≤ S20096x128.size a)
theorem k0_off7_inb : ∀ (v21 : BitVec 32) (v23 : BitVec 32) (v117 : BitVec 32) (k0_hw7 : k0_chk7 v21 v23 v117), ∀ (k0_h5 : k0_cond5 v21 v23 = 1#1), ∀ a, (k0_off7 v117) a + S128x128.size a ≤ S20096x128.size a := fun v21 v23 v117 k0_hw7 k0_h5 => k0_hw7 k0_h5

def k0_off8 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk8 (v21 : BitVec 32) (v23 : BitVec 32) (v124 : BitVec 32) : Prop :=
  (∀ (k0_h5 : k0_cond5 v21 v23 = 1#1), ∀ a, (k0_off8 v124) a + S128x128.size a ≤ S20096x128.size a)
theorem k0_off8_inb : ∀ (v21 : BitVec 32) (v23 : BitVec 32) (v124 : BitVec 32) (k0_hw8 : k0_chk8 v21 v23 v124), ∀ (k0_h5 : k0_cond5 v21 v23 = 1#1), ∀ a, (k0_off8 v124) a + S128x128.size a ≤ S20096x128.size a := fun v21 v23 v124 k0_hw8 k0_h5 => k0_hw8 k0_h5

def k0_off9 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond6 (v21 : BitVec 32) (v23 : BitVec 32) : BitVec 1 :=
  let c4_i32 : BitVec 32 := 4#32
  let v48 : BitVec 1 := Scalar.cmpi .sle v21 c4_i32
  let c4_i32_24 : BitVec 32 := 4#32
  let v49 : BitVec 1 := Scalar.cmpi .sge v23 c4_i32_24
  let v50 : BitVec 1 := Scalar.andi v48 v49
  let v51 : BitVec 32 := Scalar.extui v50
  let c0_i32_25 : BitVec 32 := 0#32
  let v52 : BitVec 1 := Scalar.cmpi .ne v51 c0_i32_25
  v52

def k0_chk9 (v21 : BitVec 32) (v23 : BitVec 32) (v117 : BitVec 32) : Prop :=
  (∀ (k0_h6 : k0_cond6 v21 v23 = 1#1), ∀ a, (k0_off9 v117) a + S128x128.size a ≤ S20096x128.size a)
theorem k0_off9_inb : ∀ (v21 : BitVec 32) (v23 : BitVec 32) (v117 : BitVec 32) (k0_hw9 : k0_chk9 v21 v23 v117), ∀ (k0_h6 : k0_cond6 v21 v23 = 1#1), ∀ a, (k0_off9 v117) a + S128x128.size a ≤ S20096x128.size a := fun v21 v23 v117 k0_hw9 k0_h6 => k0_hw9 k0_h6

def k0_off10 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk10 (v21 : BitVec 32) (v23 : BitVec 32) (v124 : BitVec 32) : Prop :=
  (∀ (k0_h6 : k0_cond6 v21 v23 = 1#1), ∀ a, (k0_off10 v124) a + S128x128.size a ≤ S20096x128.size a)
theorem k0_off10_inb : ∀ (v21 : BitVec 32) (v23 : BitVec 32) (v124 : BitVec 32) (k0_hw10 : k0_chk10 v21 v23 v124), ∀ (k0_h6 : k0_cond6 v21 v23 = 1#1), ∀ a, (k0_off10 v124) a + S128x128.size a ≤ S20096x128.size a := fun v21 v23 v124 k0_hw10 k0_h6 => k0_hw10 k0_h6

def k0_off11 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond7 (v21 : BitVec 32) (v23 : BitVec 32) : BitVec 1 :=
  let c5_i32 : BitVec 32 := 5#32
  let v53 : BitVec 1 := Scalar.cmpi .sle v21 c5_i32
  let c5_i32_26 : BitVec 32 := 5#32
  let v54 : BitVec 1 := Scalar.cmpi .sge v23 c5_i32_26
  let v55 : BitVec 1 := Scalar.andi v53 v54
  let v56 : BitVec 32 := Scalar.extui v55
  let c0_i32_27 : BitVec 32 := 0#32
  let v57 : BitVec 1 := Scalar.cmpi .ne v56 c0_i32_27
  v57

def k0_chk11 (v21 : BitVec 32) (v23 : BitVec 32) (v117 : BitVec 32) : Prop :=
  (∀ (k0_h7 : k0_cond7 v21 v23 = 1#1), ∀ a, (k0_off11 v117) a + S128x128.size a ≤ S20096x128.size a)
theorem k0_off11_inb : ∀ (v21 : BitVec 32) (v23 : BitVec 32) (v117 : BitVec 32) (k0_hw11 : k0_chk11 v21 v23 v117), ∀ (k0_h7 : k0_cond7 v21 v23 = 1#1), ∀ a, (k0_off11 v117) a + S128x128.size a ≤ S20096x128.size a := fun v21 v23 v117 k0_hw11 k0_h7 => k0_hw11 k0_h7

def k0_off12 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk12 (v21 : BitVec 32) (v23 : BitVec 32) (v124 : BitVec 32) : Prop :=
  (∀ (k0_h7 : k0_cond7 v21 v23 = 1#1), ∀ a, (k0_off12 v124) a + S128x128.size a ≤ S20096x128.size a)
theorem k0_off12_inb : ∀ (v21 : BitVec 32) (v23 : BitVec 32) (v124 : BitVec 32) (k0_hw12 : k0_chk12 v21 v23 v124), ∀ (k0_h7 : k0_cond7 v21 v23 = 1#1), ∀ a, (k0_off12 v124) a + S128x128.size a ≤ S20096x128.size a := fun v21 v23 v124 k0_hw12 k0_h7 => k0_hw12 k0_h7

def k0_off13 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond8 (v21 : BitVec 32) (v23 : BitVec 32) : BitVec 1 :=
  let c6_i32 : BitVec 32 := 6#32
  let v58 : BitVec 1 := Scalar.cmpi .sle v21 c6_i32
  let c6_i32_28 : BitVec 32 := 6#32
  let v59 : BitVec 1 := Scalar.cmpi .sge v23 c6_i32_28
  let v60 : BitVec 1 := Scalar.andi v58 v59
  let v61 : BitVec 32 := Scalar.extui v60
  let c0_i32_29 : BitVec 32 := 0#32
  let v62 : BitVec 1 := Scalar.cmpi .ne v61 c0_i32_29
  v62

def k0_chk13 (v21 : BitVec 32) (v23 : BitVec 32) (v117 : BitVec 32) : Prop :=
  (∀ (k0_h8 : k0_cond8 v21 v23 = 1#1), ∀ a, (k0_off13 v117) a + S128x128.size a ≤ S20096x128.size a)
theorem k0_off13_inb : ∀ (v21 : BitVec 32) (v23 : BitVec 32) (v117 : BitVec 32) (k0_hw13 : k0_chk13 v21 v23 v117), ∀ (k0_h8 : k0_cond8 v21 v23 = 1#1), ∀ a, (k0_off13 v117) a + S128x128.size a ≤ S20096x128.size a := fun v21 v23 v117 k0_hw13 k0_h8 => k0_hw13 k0_h8

def k0_off14 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk14 (v21 : BitVec 32) (v23 : BitVec 32) (v124 : BitVec 32) : Prop :=
  (∀ (k0_h8 : k0_cond8 v21 v23 = 1#1), ∀ a, (k0_off14 v124) a + S128x128.size a ≤ S20096x128.size a)
theorem k0_off14_inb : ∀ (v21 : BitVec 32) (v23 : BitVec 32) (v124 : BitVec 32) (k0_hw14 : k0_chk14 v21 v23 v124), ∀ (k0_h8 : k0_cond8 v21 v23 = 1#1), ∀ a, (k0_off14 v124) a + S128x128.size a ≤ S20096x128.size a := fun v21 v23 v124 k0_hw14 k0_h8 => k0_hw14 k0_h8

def k0_off15 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond9 (v21 : BitVec 32) (v23 : BitVec 32) : BitVec 1 :=
  let c7_i32 : BitVec 32 := 7#32
  let v63 : BitVec 1 := Scalar.cmpi .sle v21 c7_i32
  let c7_i32_30 : BitVec 32 := 7#32
  let v64 : BitVec 1 := Scalar.cmpi .sge v23 c7_i32_30
  let v65 : BitVec 1 := Scalar.andi v63 v64
  let v66 : BitVec 32 := Scalar.extui v65
  let c0_i32_31 : BitVec 32 := 0#32
  let v67 : BitVec 1 := Scalar.cmpi .ne v66 c0_i32_31
  v67

def k0_chk15 (v21 : BitVec 32) (v23 : BitVec 32) (v117 : BitVec 32) : Prop :=
  (∀ (k0_h9 : k0_cond9 v21 v23 = 1#1), ∀ a, (k0_off15 v117) a + S128x128.size a ≤ S20096x128.size a)
theorem k0_off15_inb : ∀ (v21 : BitVec 32) (v23 : BitVec 32) (v117 : BitVec 32) (k0_hw15 : k0_chk15 v21 v23 v117), ∀ (k0_h9 : k0_cond9 v21 v23 = 1#1), ∀ a, (k0_off15 v117) a + S128x128.size a ≤ S20096x128.size a := fun v21 v23 v117 k0_hw15 k0_h9 => k0_hw15 k0_h9

def k0_off16 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk16 (v21 : BitVec 32) (v23 : BitVec 32) (v124 : BitVec 32) : Prop :=
  (∀ (k0_h9 : k0_cond9 v21 v23 = 1#1), ∀ a, (k0_off16 v124) a + S128x128.size a ≤ S20096x128.size a)
theorem k0_off16_inb : ∀ (v21 : BitVec 32) (v23 : BitVec 32) (v124 : BitVec 32) (k0_hw16 : k0_chk16 v21 v23 v124), ∀ (k0_h9 : k0_cond9 v21 v23 = 1#1), ∀ a, (k0_off16 v124) a + S128x128.size a ≤ S20096x128.size a := fun v21 v23 v124 k0_hw16 k0_h9 => k0_hw16 k0_h9

def k0_off17 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond10 (v21 : BitVec 32) (v23 : BitVec 32) : BitVec 1 :=
  let c8_i32 : BitVec 32 := 8#32
  let v68 : BitVec 1 := Scalar.cmpi .sle v21 c8_i32
  let c8_i32_32 : BitVec 32 := 8#32
  let v69 : BitVec 1 := Scalar.cmpi .sge v23 c8_i32_32
  let v70 : BitVec 1 := Scalar.andi v68 v69
  let v71 : BitVec 32 := Scalar.extui v70
  let c0_i32_33 : BitVec 32 := 0#32
  let v72 : BitVec 1 := Scalar.cmpi .ne v71 c0_i32_33
  v72

def k0_chk17 (v21 : BitVec 32) (v23 : BitVec 32) (v117 : BitVec 32) : Prop :=
  (∀ (k0_h10 : k0_cond10 v21 v23 = 1#1), ∀ a, (k0_off17 v117) a + S128x128.size a ≤ S20096x128.size a)
theorem k0_off17_inb : ∀ (v21 : BitVec 32) (v23 : BitVec 32) (v117 : BitVec 32) (k0_hw17 : k0_chk17 v21 v23 v117), ∀ (k0_h10 : k0_cond10 v21 v23 = 1#1), ∀ a, (k0_off17 v117) a + S128x128.size a ≤ S20096x128.size a := fun v21 v23 v117 k0_hw17 k0_h10 => k0_hw17 k0_h10

def k0_off18 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk18 (v21 : BitVec 32) (v23 : BitVec 32) (v124 : BitVec 32) : Prop :=
  (∀ (k0_h10 : k0_cond10 v21 v23 = 1#1), ∀ a, (k0_off18 v124) a + S128x128.size a ≤ S20096x128.size a)
theorem k0_off18_inb : ∀ (v21 : BitVec 32) (v23 : BitVec 32) (v124 : BitVec 32) (k0_hw18 : k0_chk18 v21 v23 v124), ∀ (k0_h10 : k0_cond10 v21 v23 = 1#1), ∀ a, (k0_off18 v124) a + S128x128.size a ≤ S20096x128.size a := fun v21 v23 v124 k0_hw18 k0_h10 => k0_hw18 k0_h10

def k0_off19 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond11 (v21 : BitVec 32) (v23 : BitVec 32) : BitVec 1 :=
  let c9_i32 : BitVec 32 := 9#32
  let v73 : BitVec 1 := Scalar.cmpi .sle v21 c9_i32
  let c9_i32_34 : BitVec 32 := 9#32
  let v74 : BitVec 1 := Scalar.cmpi .sge v23 c9_i32_34
  let v75 : BitVec 1 := Scalar.andi v73 v74
  let v76 : BitVec 32 := Scalar.extui v75
  let c0_i32_35 : BitVec 32 := 0#32
  let v77 : BitVec 1 := Scalar.cmpi .ne v76 c0_i32_35
  v77

def k0_chk19 (v21 : BitVec 32) (v23 : BitVec 32) (v117 : BitVec 32) : Prop :=
  (∀ (k0_h11 : k0_cond11 v21 v23 = 1#1), ∀ a, (k0_off19 v117) a + S128x128.size a ≤ S20096x128.size a)
theorem k0_off19_inb : ∀ (v21 : BitVec 32) (v23 : BitVec 32) (v117 : BitVec 32) (k0_hw19 : k0_chk19 v21 v23 v117), ∀ (k0_h11 : k0_cond11 v21 v23 = 1#1), ∀ a, (k0_off19 v117) a + S128x128.size a ≤ S20096x128.size a := fun v21 v23 v117 k0_hw19 k0_h11 => k0_hw19 k0_h11

def k0_off20 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk20 (v21 : BitVec 32) (v23 : BitVec 32) (v124 : BitVec 32) : Prop :=
  (∀ (k0_h11 : k0_cond11 v21 v23 = 1#1), ∀ a, (k0_off20 v124) a + S128x128.size a ≤ S20096x128.size a)
theorem k0_off20_inb : ∀ (v21 : BitVec 32) (v23 : BitVec 32) (v124 : BitVec 32) (k0_hw20 : k0_chk20 v21 v23 v124), ∀ (k0_h11 : k0_cond11 v21 v23 = 1#1), ∀ a, (k0_off20 v124) a + S128x128.size a ≤ S20096x128.size a := fun v21 v23 v124 k0_hw20 k0_h11 => k0_hw20 k0_h11

def k0_off21 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond12 (v21 : BitVec 32) (v23 : BitVec 32) : BitVec 1 :=
  let c10_i32 : BitVec 32 := 10#32
  let v78 : BitVec 1 := Scalar.cmpi .sle v21 c10_i32
  let c10_i32_36 : BitVec 32 := 10#32
  let v79 : BitVec 1 := Scalar.cmpi .sge v23 c10_i32_36
  let v80 : BitVec 1 := Scalar.andi v78 v79
  let v81 : BitVec 32 := Scalar.extui v80
  let c0_i32_37 : BitVec 32 := 0#32
  let v82 : BitVec 1 := Scalar.cmpi .ne v81 c0_i32_37
  v82

def k0_chk21 (v21 : BitVec 32) (v23 : BitVec 32) (v117 : BitVec 32) : Prop :=
  (∀ (k0_h12 : k0_cond12 v21 v23 = 1#1), ∀ a, (k0_off21 v117) a + S128x128.size a ≤ S20096x128.size a)
theorem k0_off21_inb : ∀ (v21 : BitVec 32) (v23 : BitVec 32) (v117 : BitVec 32) (k0_hw21 : k0_chk21 v21 v23 v117), ∀ (k0_h12 : k0_cond12 v21 v23 = 1#1), ∀ a, (k0_off21 v117) a + S128x128.size a ≤ S20096x128.size a := fun v21 v23 v117 k0_hw21 k0_h12 => k0_hw21 k0_h12

def k0_off22 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk22 (v21 : BitVec 32) (v23 : BitVec 32) (v124 : BitVec 32) : Prop :=
  (∀ (k0_h12 : k0_cond12 v21 v23 = 1#1), ∀ a, (k0_off22 v124) a + S128x128.size a ≤ S20096x128.size a)
theorem k0_off22_inb : ∀ (v21 : BitVec 32) (v23 : BitVec 32) (v124 : BitVec 32) (k0_hw22 : k0_chk22 v21 v23 v124), ∀ (k0_h12 : k0_cond12 v21 v23 = 1#1), ∀ a, (k0_off22 v124) a + S128x128.size a ≤ S20096x128.size a := fun v21 v23 v124 k0_hw22 k0_h12 => k0_hw22 k0_h12

def k0_off23 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond13 (v21 : BitVec 32) (v23 : BitVec 32) : BitVec 1 :=
  let c11_i32 : BitVec 32 := 11#32
  let v83 : BitVec 1 := Scalar.cmpi .sle v21 c11_i32
  let c11_i32_38 : BitVec 32 := 11#32
  let v84 : BitVec 1 := Scalar.cmpi .sge v23 c11_i32_38
  let v85 : BitVec 1 := Scalar.andi v83 v84
  let v86 : BitVec 32 := Scalar.extui v85
  let c0_i32_39 : BitVec 32 := 0#32
  let v87 : BitVec 1 := Scalar.cmpi .ne v86 c0_i32_39
  v87

def k0_chk23 (v21 : BitVec 32) (v23 : BitVec 32) (v117 : BitVec 32) : Prop :=
  (∀ (k0_h13 : k0_cond13 v21 v23 = 1#1), ∀ a, (k0_off23 v117) a + S128x128.size a ≤ S20096x128.size a)
theorem k0_off23_inb : ∀ (v21 : BitVec 32) (v23 : BitVec 32) (v117 : BitVec 32) (k0_hw23 : k0_chk23 v21 v23 v117), ∀ (k0_h13 : k0_cond13 v21 v23 = 1#1), ∀ a, (k0_off23 v117) a + S128x128.size a ≤ S20096x128.size a := fun v21 v23 v117 k0_hw23 k0_h13 => k0_hw23 k0_h13

def k0_off24 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk24 (v21 : BitVec 32) (v23 : BitVec 32) (v124 : BitVec 32) : Prop :=
  (∀ (k0_h13 : k0_cond13 v21 v23 = 1#1), ∀ a, (k0_off24 v124) a + S128x128.size a ≤ S20096x128.size a)
theorem k0_off24_inb : ∀ (v21 : BitVec 32) (v23 : BitVec 32) (v124 : BitVec 32) (k0_hw24 : k0_chk24 v21 v23 v124), ∀ (k0_h13 : k0_cond13 v21 v23 = 1#1), ∀ a, (k0_off24 v124) a + S128x128.size a ≤ S20096x128.size a := fun v21 v23 v124 k0_hw24 k0_h13 => k0_hw24 k0_h13

def k0_off25 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond14 (v21 : BitVec 32) (v23 : BitVec 32) : BitVec 1 :=
  let c12_i32 : BitVec 32 := 12#32
  let v88 : BitVec 1 := Scalar.cmpi .sle v21 c12_i32
  let c12_i32_40 : BitVec 32 := 12#32
  let v89 : BitVec 1 := Scalar.cmpi .sge v23 c12_i32_40
  let v90 : BitVec 1 := Scalar.andi v88 v89
  let v91 : BitVec 32 := Scalar.extui v90
  let c0_i32_41 : BitVec 32 := 0#32
  let v92 : BitVec 1 := Scalar.cmpi .ne v91 c0_i32_41
  v92

def k0_chk25 (v21 : BitVec 32) (v23 : BitVec 32) (v117 : BitVec 32) : Prop :=
  (∀ (k0_h14 : k0_cond14 v21 v23 = 1#1), ∀ a, (k0_off25 v117) a + S128x128.size a ≤ S20096x128.size a)
theorem k0_off25_inb : ∀ (v21 : BitVec 32) (v23 : BitVec 32) (v117 : BitVec 32) (k0_hw25 : k0_chk25 v21 v23 v117), ∀ (k0_h14 : k0_cond14 v21 v23 = 1#1), ∀ a, (k0_off25 v117) a + S128x128.size a ≤ S20096x128.size a := fun v21 v23 v117 k0_hw25 k0_h14 => k0_hw25 k0_h14

def k0_off26 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk26 (v21 : BitVec 32) (v23 : BitVec 32) (v124 : BitVec 32) : Prop :=
  (∀ (k0_h14 : k0_cond14 v21 v23 = 1#1), ∀ a, (k0_off26 v124) a + S128x128.size a ≤ S20096x128.size a)
theorem k0_off26_inb : ∀ (v21 : BitVec 32) (v23 : BitVec 32) (v124 : BitVec 32) (k0_hw26 : k0_chk26 v21 v23 v124), ∀ (k0_h14 : k0_cond14 v21 v23 = 1#1), ∀ a, (k0_off26 v124) a + S128x128.size a ≤ S20096x128.size a := fun v21 v23 v124 k0_hw26 k0_h14 => k0_hw26 k0_h14

def k0_off27 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond15 (v21 : BitVec 32) (v23 : BitVec 32) : BitVec 1 :=
  let c13_i32 : BitVec 32 := 13#32
  let v93 : BitVec 1 := Scalar.cmpi .sle v21 c13_i32
  let c13_i32_42 : BitVec 32 := 13#32
  let v94 : BitVec 1 := Scalar.cmpi .sge v23 c13_i32_42
  let v95 : BitVec 1 := Scalar.andi v93 v94
  let v96 : BitVec 32 := Scalar.extui v95
  let c0_i32_43 : BitVec 32 := 0#32
  let v97 : BitVec 1 := Scalar.cmpi .ne v96 c0_i32_43
  v97

def k0_chk27 (v21 : BitVec 32) (v23 : BitVec 32) (v117 : BitVec 32) : Prop :=
  (∀ (k0_h15 : k0_cond15 v21 v23 = 1#1), ∀ a, (k0_off27 v117) a + S128x128.size a ≤ S20096x128.size a)
theorem k0_off27_inb : ∀ (v21 : BitVec 32) (v23 : BitVec 32) (v117 : BitVec 32) (k0_hw27 : k0_chk27 v21 v23 v117), ∀ (k0_h15 : k0_cond15 v21 v23 = 1#1), ∀ a, (k0_off27 v117) a + S128x128.size a ≤ S20096x128.size a := fun v21 v23 v117 k0_hw27 k0_h15 => k0_hw27 k0_h15

def k0_off28 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk28 (v21 : BitVec 32) (v23 : BitVec 32) (v124 : BitVec 32) : Prop :=
  (∀ (k0_h15 : k0_cond15 v21 v23 = 1#1), ∀ a, (k0_off28 v124) a + S128x128.size a ≤ S20096x128.size a)
theorem k0_off28_inb : ∀ (v21 : BitVec 32) (v23 : BitVec 32) (v124 : BitVec 32) (k0_hw28 : k0_chk28 v21 v23 v124), ∀ (k0_h15 : k0_cond15 v21 v23 = 1#1), ∀ a, (k0_off28 v124) a + S128x128.size a ≤ S20096x128.size a := fun v21 v23 v124 k0_hw28 k0_h15 => k0_hw28 k0_h15

def k0_off29 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond16 (v21 : BitVec 32) (v23 : BitVec 32) : BitVec 1 :=
  let c14_i32 : BitVec 32 := 14#32
  let v98 : BitVec 1 := Scalar.cmpi .sle v21 c14_i32
  let c14_i32_44 : BitVec 32 := 14#32
  let v99 : BitVec 1 := Scalar.cmpi .sge v23 c14_i32_44
  let v100 : BitVec 1 := Scalar.andi v98 v99
  let v101 : BitVec 32 := Scalar.extui v100
  let c0_i32_45 : BitVec 32 := 0#32
  let v102 : BitVec 1 := Scalar.cmpi .ne v101 c0_i32_45
  v102

def k0_chk29 (v21 : BitVec 32) (v23 : BitVec 32) (v117 : BitVec 32) : Prop :=
  (∀ (k0_h16 : k0_cond16 v21 v23 = 1#1), ∀ a, (k0_off29 v117) a + S128x128.size a ≤ S20096x128.size a)
theorem k0_off29_inb : ∀ (v21 : BitVec 32) (v23 : BitVec 32) (v117 : BitVec 32) (k0_hw29 : k0_chk29 v21 v23 v117), ∀ (k0_h16 : k0_cond16 v21 v23 = 1#1), ∀ a, (k0_off29 v117) a + S128x128.size a ≤ S20096x128.size a := fun v21 v23 v117 k0_hw29 k0_h16 => k0_hw29 k0_h16

def k0_off30 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk30 (v21 : BitVec 32) (v23 : BitVec 32) (v124 : BitVec 32) : Prop :=
  (∀ (k0_h16 : k0_cond16 v21 v23 = 1#1), ∀ a, (k0_off30 v124) a + S128x128.size a ≤ S20096x128.size a)
theorem k0_off30_inb : ∀ (v21 : BitVec 32) (v23 : BitVec 32) (v124 : BitVec 32) (k0_hw30 : k0_chk30 v21 v23 v124), ∀ (k0_h16 : k0_cond16 v21 v23 = 1#1), ∀ a, (k0_off30 v124) a + S128x128.size a ≤ S20096x128.size a := fun v21 v23 v124 k0_hw30 k0_h16 => k0_hw30 k0_h16

def k0_off31 (v117 : BitVec 32) : Fin 2 → Nat :=
  let c0_i32_60 : BitVec 32 := 0#32
  let v141 : BitVec 1 := Scalar.cmpi .sgt v117 c0_i32_60
  let v142 : BitVec 32 := Scalar.extui v141
  let c0_i32_61 : BitVec 32 := 0#32
  let v143 : BitVec 1 := Scalar.cmpi .slt v117 c0_i32_61
  let v144 : BitVec 32 := Scalar.extui v143
  let v145 : BitVec 32 := Scalar.subi v142 v144
  let c128_i32_59 : BitVec 32 := 128#32
  let c0_i32_62 : BitVec 32 := 0#32
  let v146 : BitVec 1 := Scalar.cmpi .sgt c128_i32_59 c0_i32_62
  let v147 : BitVec 32 := Scalar.extui v146
  let c0_i32_63 : BitVec 32 := 0#32
  let v148 : BitVec 1 := Scalar.cmpi .slt c128_i32_59 c0_i32_63
  let v149 : BitVec 32 := Scalar.extui v148
  let v150 : BitVec 32 := Scalar.subi v147 v149
  let v151 : BitVec 1 := Scalar.cmpi .ne v145 v150
  let v152 : BitVec 32 := Scalar.remsi v117 c128_i32_59
  let c0_i32_64 : BitVec 32 := 0#32
  let v153 : BitVec 1 := Scalar.cmpi .ne v152 c0_i32_64
  let v154 : BitVec 1 := Scalar.andi v151 v153
  let v140 : BitVec 32 := Scalar.divsi v117 c128_i32_59
  let c1_i32_65 : BitVec 32 := 1#32
  let v155 : BitVec 32 := Scalar.subi v140 c1_i32_65
  let v156 : BitVec 32 := Scalar.select v154 v155 v140
  let c128_i32_66 : BitVec 32 := 128#32
  let v157 : BitVec 32 := Scalar.muli v156 c128_i32_66
  let v158 : Index := Scalar.indexCast v157
  let c0_67 : Index := 0#32
  ![v158.toNat, 0]
def k0_cond17 (v21 : BitVec 32) (v23 : BitVec 32) : BitVec 1 :=
  let c15_i32 : BitVec 32 := 15#32
  let v103 : BitVec 1 := Scalar.cmpi .sle v21 c15_i32
  let c15_i32_46 : BitVec 32 := 15#32
  let v104 : BitVec 1 := Scalar.cmpi .sge v23 c15_i32_46
  let v105 : BitVec 1 := Scalar.andi v103 v104
  let v106 : BitVec 32 := Scalar.extui v105
  let c0_i32_47 : BitVec 32 := 0#32
  let v107 : BitVec 1 := Scalar.cmpi .ne v106 c0_i32_47
  v107

def k0_chk31 (v21 : BitVec 32) (v23 : BitVec 32) (v117 : BitVec 32) : Prop :=
  (∀ (k0_h17 : k0_cond17 v21 v23 = 1#1), ∀ a, (k0_off31 v117) a + S128x128.size a ≤ S20096x128.size a)
theorem k0_off31_inb : ∀ (v21 : BitVec 32) (v23 : BitVec 32) (v117 : BitVec 32) (k0_hw31 : k0_chk31 v21 v23 v117), ∀ (k0_h17 : k0_cond17 v21 v23 = 1#1), ∀ a, (k0_off31 v117) a + S128x128.size a ≤ S20096x128.size a := fun v21 v23 v117 k0_hw31 k0_h17 => k0_hw31 k0_h17

def k0_off32 (v124 : BitVec 32) : Fin 2 → Nat :=
  let c1_i32_57 : BitVec 32 := 1#32
  let v138 : BitVec 32 := Scalar.maxsi v124 c1_i32_57
  let c1_i32_58 : BitVec 32 := 1#32
  let v139 : BitVec 32 := Scalar.subi v138 c1_i32_58
  let c0_i32_71 : BitVec 32 := 0#32
  let v177 : BitVec 1 := Scalar.cmpi .sgt v139 c0_i32_71
  let v178 : BitVec 32 := Scalar.extui v177
  let c0_i32_72 : BitVec 32 := 0#32
  let v179 : BitVec 1 := Scalar.cmpi .slt v139 c0_i32_72
  let v180 : BitVec 32 := Scalar.extui v179
  let v181 : BitVec 32 := Scalar.subi v178 v180
  let c128_i32_70 : BitVec 32 := 128#32
  let c0_i32_73 : BitVec 32 := 0#32
  let v182 : BitVec 1 := Scalar.cmpi .sgt c128_i32_70 c0_i32_73
  let v183 : BitVec 32 := Scalar.extui v182
  let c0_i32_74 : BitVec 32 := 0#32
  let v184 : BitVec 1 := Scalar.cmpi .slt c128_i32_70 c0_i32_74
  let v185 : BitVec 32 := Scalar.extui v184
  let v186 : BitVec 32 := Scalar.subi v183 v185
  let v187 : BitVec 1 := Scalar.cmpi .ne v181 v186
  let v188 : BitVec 32 := Scalar.remsi v139 c128_i32_70
  let c0_i32_75 : BitVec 32 := 0#32
  let v189 : BitVec 1 := Scalar.cmpi .ne v188 c0_i32_75
  let v190 : BitVec 1 := Scalar.andi v187 v189
  let v176 : BitVec 32 := Scalar.divsi v139 c128_i32_70
  let c1_i32_76 : BitVec 32 := 1#32
  let v191 : BitVec 32 := Scalar.subi v176 c1_i32_76
  let v192 : BitVec 32 := Scalar.select v190 v191 v176
  let c128_i32_77 : BitVec 32 := 128#32
  let v193 : BitVec 32 := Scalar.muli v192 c128_i32_77
  let v194 : Index := Scalar.indexCast v193
  let c0_78 : Index := 0#32
  ![v194.toNat, 0]

def k0_chk32 (v21 : BitVec 32) (v23 : BitVec 32) (v124 : BitVec 32) : Prop :=
  (∀ (k0_h17 : k0_cond17 v21 v23 = 1#1), ∀ a, (k0_off32 v124) a + S128x128.size a ≤ S20096x128.size a)
theorem k0_off32_inb : ∀ (v21 : BitVec 32) (v23 : BitVec 32) (v124 : BitVec 32) (k0_hw32 : k0_chk32 v21 v23 v124), ∀ (k0_h17 : k0_cond17 v21 v23 = 1#1), ∀ a, (k0_off32 v124) a + S128x128.size a ≤ S20096x128.size a := fun v21 v23 v124 k0_hw32 k0_h17 => k0_hw32 k0_h17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x20096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x2512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x128 : Shape := ⟨2, ![100000, 128]⟩
abbrev S100000x3 : Shape := ⟨2, ![100000, 3]⟩
abbrev S100000 : Shape := ⟨1, ![100000]⟩
abbrev S131x128 : Shape := ⟨2, ![131, 128]⟩
abbrev S128 : Shape := ⟨1, ![128]⟩
abbrev S100000x131 : Shape := ⟨2, ![100000, 131]⟩
abbrev S1x128 : Shape := ⟨2, ![1, 128]⟩
abbrev S_ : Shape := ⟨0, ![]⟩
abbrev S1x100000 : Shape := ⟨2, ![1, 100000]⟩
abbrev S16 : Shape := ⟨1, ![16]⟩
abbrev S16x1 : Shape := ⟨2, ![16, 1]⟩
abbrev S16x100000 : Shape := ⟨2, ![16, 100000]⟩
abbrev S16x100000x1 : Shape := ⟨3, ![16, 100000, 1]⟩
abbrev S1x100000x128 : Shape := ⟨3, ![1, 100000, 128]⟩
abbrev S16x100000x128 : Shape := ⟨3, ![16, 100000, 128]⟩
abbrev S16x128 : Shape := ⟨2, ![16, 128]⟩
abbrev S16x3 : Shape := ⟨2, ![16, 3]⟩

abbrev nBuf : Space → Nat
  | .hbm => 32
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S100000, .i32⟩
  | .hbm, ⟨3, _⟩ => ⟨S131x128, .f32⟩
  | .hbm, ⟨4, _⟩ => ⟨S128, .f32⟩
  | .hbm, ⟨5, _⟩ => ⟨S100000x131, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S100000x128, .f32⟩
  | .hbm, ⟨12, _⟩ => ⟨S100000x128, .f32⟩
  | .hbm, ⟨13, _⟩ => ⟨S1x100000, .i32⟩
  | .hbm, ⟨14, _⟩ => ⟨S16, .i32⟩
  | .hbm, ⟨15, _⟩ => ⟨S16x1, .i32⟩
  | .hbm, ⟨16, _⟩ => ⟨S16x100000, .i32⟩
  | .hbm, ⟨17, _⟩ => ⟨S16x100000, .i32⟩
  | .hbm, ⟨18, _⟩ => ⟨S16x100000, .i1⟩
  | .hbm, ⟨19, _⟩ => ⟨S16x100000x1, .i1⟩
  | .hbm, ⟨20, _⟩ => ⟨S1x100000x128, .f32⟩
  | .hbm, ⟨21, _⟩ => ⟨S_, .f32⟩
  | .hbm, ⟨22, _⟩ => ⟨S_, .f32⟩
  | .hbm, ⟨23, _⟩ => ⟨S16x100000x128, .i1⟩
  | .hbm, ⟨24, _⟩ => ⟨S16x100000x128, .f32⟩
  | .hbm, ⟨25, _⟩ => ⟨S16x100000x128, .f32⟩
  | .hbm, ⟨26, _⟩ => ⟨S16x100000x128, .f32⟩
  | .hbm, ⟨27, _⟩ => ⟨S_, .f32⟩
  | .hbm, ⟨28, _⟩ => ⟨S16x128, .f32⟩
  | .hbm, ⟨29, _⟩ => ⟨S_, .f32⟩
  | .hbm, ⟨30, _⟩ => ⟨S16x3, .f32⟩
  | .hbm, ⟨31, _⟩ => ⟨S16, .i32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Proof.Segment.lean ====
module

public import proofs.«01_k».proof.Proof.Gen.KernelIdeal.Skeleton

/-! # One segment of the kernel's body, as one program

The kernel's body treats its sixteen segments one after the other, by the same lines with another number in
them.  Here those lines are one program, with the number as an argument, and the printed body is shown to be that
program sixteen times. -/

@[expose] public section

set_option maxRecDepth 16384

noncomputable section

namespace Cert.KernelIdeal.Seg

open Idealize.ShloMosaic Idealize.SL.Sem
open Cert.KernelIdeal.Gen

variable {F : FTy → Type} [FloatOps F]

/-! ## The words of a segment -/

/-- Whether the tile's batch numbers, from `first` to `last`, can hold segment `bv`. -/
def cond (bv first last : BitVec 32) : BitVec 1 :=
  Scalar.cmpi .ne (Scalar.extui (Scalar.andi (Scalar.cmpi .sle first bv) (Scalar.cmpi .sge last bv))) 0#32

/-- The sum of a tile's 0/1 words. -/
def total (v : IVec S8x2512 1) : BitVec 32 :=
  extractAt ![0, 0, 0] (shapeCast S1x1x1 (multiReductionI .add [1, 2] S1
    (shapeCast S1x8x2512 (extui 32 v natLt_1_32) shapeCasts_S8x2512_S1x8x2512) 0#32 reduces_S1x8x2512_S1 rfl)
    shapeCasts_S1_S1x1x1) inpos_S1x1x1_p0_0_0

/-- How many rows of the tile have a smaller batch number than `bv`. -/
def lo (bv : BitVec 32) (bt : IVec S8x2512 32) : BitVec 32 := total (cmpi .slt bt (broadcast S8x2512 bv))

/-- How many rows of the tile have at most the batch number `bv`. -/
def hi (bv : BitVec 32) (bt : IVec S8x2512 32) : BitVec 32 := total (cmpi .sle bt (broadcast S8x2512 bv))

/-- The row before row `n`, the row 0 for `n = 0`. -/
def pred (n : BitVec 32) : BitVec 32 := Scalar.subi (Scalar.maxsi n 1#32) 1#32

/-- The first row of the block of 128 rows that row `n` lies in, as the kernel divides and multiplies. -/
def start (n : BitVec 32) : BitVec 32 :=
  Scalar.muli (Scalar.select (Scalar.andi
      (Scalar.cmpi .ne (Scalar.subi (Scalar.extui (Scalar.cmpi .sgt n 0#32)) (Scalar.extui (Scalar.cmpi .slt n 0#32)))
        (Scalar.subi (Scalar.extui (Scalar.cmpi .sgt 128#32 0#32)) (Scalar.extui (Scalar.cmpi .slt 128#32 0#32))))
      (Scalar.cmpi .ne (Scalar.remsi n 128#32) 0#32))
    (Scalar.subi (Scalar.divsi n 128#32) 1#32) (Scalar.divsi n 128#32)) 128#32

/-- Where the block of row `n` begins in the tile. -/
def off (n : BitVec 32) : Fin 2 → ℕ := ![(Scalar.indexCast (start n)).toNat, 0]

/-- The side condition of one block's load. -/
def chk (bv first last n : BitVec 32) : Prop :=
  (∀ (h : cond bv first last = 1#1), ∀ a, (off n) a + S128x128.size a ≤ S20096x128.size a)

instance chk.dec : ∀ (bv first last n : BitVec 32), Decidable (chk bv first last n) := fun bv first last n =>
  decidable_of_iff' _ (Iff.of_eq (chk.eq_1 bv first last n))

/-! ## The values of a segment -/

/-- The greatest of the whole blocks that lie between `lo` and `hi`. -/
def whole (cm : FVec F S157x128 .f32) (cs : IVec S157x1 32) (lo hi : BitVec 32) : FVec F S1x128 .f32 :=
  shapeCast S1x128 (multiReduction .maximumf [0] S128
    (select (broadcastTo S157x128 (shapeCast S157x1 (andi (cmpi .sge cs (broadcast S157x1 lo))
        (cmpi .sle (addi cs (broadcast S157x1 128#32)) (broadcast S157x1 hi))) shapeCasts_S157x1_S157x1)
        broadcasts_S157x1_S157x128) cm (broadcast S157x128 (Scalar.ofBits .f32 0xFF800000#32)))
    0xFF800000#32 reduces_S157x128_S128 (.inl rfl) rfl) shapeCasts_S128_S1x128

/-- The greatest of the rows of one block (beginning at `st`) that lie between `lo` and `hi`. -/
def edge (io : IVec S128x1 32) (lo hi st : BitVec 32) (blk : Vec F S128x128 .f32) : FVec F S1x128 .f32 :=
  shapeCast S1x128 (multiReduction .maximumf [0] S128
    (select (broadcastTo S128x128 (shapeCast S128x1 (andi (cmpi .sge (addi io (broadcast S128x1 st)) (broadcast S128x1 lo))
        (cmpi .slt (addi io (broadcast S128x1 st)) (broadcast S128x1 hi))) shapeCasts_S128x1_S128x1)
        broadcasts_S128x1_S128x128) blk (broadcast S128x128 (Scalar.ofBits .f32 0xFF800000#32)))
    0xFF800000#32 reduces_S128x128_S128 (.inl rfl) rfl) shapeCasts_S128_S1x128

/-- The row stored: the old row against the whole blocks and the two edge blocks. -/
def row (cm : FVec F S157x128 .f32) (cs : IVec S157x1 32) (io : IVec S128x1 32) (lo hi : BitVec 32)
    (e0 e1 : Vec F S128x128 .f32) (old : Vec F S1x128 .f32) : FVec F S1x128 .f32 :=
  maximumf (shapeCast S1x128 old shapeCasts_S1x128_S1x128)
    (maximumf (maximumf (whole cm cs lo hi) (edge io lo hi (start lo) e0)) (edge io lo hi (start (pred hi)) e1))

/-! ## The program of a segment -/

theorem row_inb (s : Fin 16) : ∀ a, (![s.val, 0] : Fin 2 → ℕ) a + S1x128.size a ≤ S16x128.size a := by
  revert s; decide

variable (arg6 : Memref sig .tc .vmem S16x128 .f32) (arg7 : Memref sig .tc .vmem S20096x128 .f32)
  (bv : BitVec 32) (r : Fin 2 → ℕ) (hr : ∀ a, r a + S1x128.size a ≤ S16x128.size a)
  (cm : FVec F S157x128 .f32) (bt : IVec S8x2512 32) (first last : BitVec 32) (cs : IVec S157x1 32) (io : IVec S128x1 32)

/-- What a segment does when the tile can hold it. -/
def segThen (h : cond bv first last = 1#1) : Prog (TpuEff nD τ sig (Elt F) Λ₀ .tc) PUnit := do
  have hw1 : chk bv first last (lo bv bt) := (← Prog.lift (TpuEff.assume (chk bv first last (lo bv bt)) (chk.dec ..))).down
  have hw2 : chk bv first last (pred (hi bv bt)) := (← Prog.lift (TpuEff.assume (chk bv first last (pred (hi bv bt))) (chk.dec ..))).down
  let e0 : Vec F S128x128 .f32 ← Prog.lift (.load arg7 (Rect.unit (s := S20096x128) (off (lo bv bt)) S128x128.size (hw1 h)).toLoadRect (View.loadsAt_vmem h_S128x128))
  let e1 : Vec F S128x128 .f32 ← Prog.lift (.load arg7 (Rect.unit (s := S20096x128) (off (pred (hi bv bt))) S128x128.size (hw2 h)).toLoadRect (View.loadsAt_vmem h_S128x128))
  let old : Vec F S1x128 .f32 ← Prog.lift (.load arg6 (Rect.unit (s := S16x128) r S1x128.size hr).toLoadRect (View.loadsAt_vmem h_S1x128))
  let _ : Vec F S1x128 .f32 ← Prog.lift (.load arg6 (Rect.unit (s := S16x128) r S1x128.size hr).toLoadRect (View.loadsAt_vmem h_S1x128))
  Prog.lift (.store arg6 (Rect.unit (s := S16x128) r S1x128.size hr) (row cm cs io (lo bv bt) (hi bv bt) e0 e1 old) Finset.univ (View.stores_vmem_bits_univ h_S1x128 rfl) (.inl rfl))

/-- One segment: nothing when the tile cannot hold it. -/
def seg : Prog (TpuEff nD τ sig (Elt F) Λ₀ .tc) PUnit :=
  if h : cond bv first last = 1#1 then segThen arg6 arg7 bv r hr cm bt first last cs io h else pure ⟨⟩

/-- A segment and what follows it, with what follows stated in both branches. -/
theorem seg_bind {α : Type} (K : PUnit → Prog (TpuEff nD τ sig (Elt F) Λ₀ .tc) α) :
    (seg arg6 arg7 bv r hr cm bt first last cs io >>= K)
      = if h : cond bv first last = 1#1 then segThen arg6 arg7 bv r hr cm bt first last cs io h >>= K else K ⟨⟩ := by
  unfold seg; split <;> rfl

/-- Lines that test a condition, run `A₀` under it and go on alike in both branches are the test and what they go on
    with, one after the other. -/
theorem ite_step {c : Prop} [Decidable c] {α : Type} {A₀ : c → Prog (TpuEff nD τ sig (Elt F) Λ₀ .tc) PUnit}
    {A : c → Prog (TpuEff nD τ sig (Elt F) Λ₀ .tc) α} {K K' : Prog (TpuEff nD τ sig (Elt F) Λ₀ .tc) α}
    (hA : ∀ h, A h = A₀ h >>= fun _ => K) (hK : K = K') :
    (if h : c then A h else K) = ((if h : c then A₀ h else pure ⟨⟩) >>= fun _ => K') := by
  subst hK; split
  · exact hA _
  · rfl

/-- The segment `s`, its number as a word and its row of the output. -/
def segAt (s : Fin 16) : Prog (TpuEff nD τ sig (Elt F) Λ₀ .tc) PUnit :=
  seg arg6 arg7 (BitVec.ofNat 32 s.val) ![s.val, 0] (row_inb s) cm bt first last cs io

/-- Lines that are one segment's, and go on alike in both branches, are the segment and what they go on with. -/
theorem seg_step (s : Fin 16) {α : Type}
    {A : cond (BitVec.ofNat 32 s.val) first last = 1#1 → Prog (TpuEff nD τ sig (Elt F) Λ₀ .tc) α}
    {K K' : Prog (TpuEff nD τ sig (Elt F) Λ₀ .tc) α}
    (hA : ∀ h, A h = segThen arg6 arg7 (BitVec.ofNat 32 s.val) ![s.val, 0] (row_inb s) cm bt first last cs io h >>= fun _ => K)
    (hK : K = K') :
    (if h : cond (BitVec.ofNat 32 s.val) first last = 1#1 then A h else K)
      = (segAt arg6 arg7 cm bt first last cs io s >>= fun _ => K') := ite_step hA hK

/-- The segments of a list, one after the other. -/
def segs : List (Fin 16) → Prog (TpuEff nD τ sig (Elt F) Λ₀ .tc) PUnit
  | [] => pure ⟨⟩
  | s :: l => segAt arg6 arg7 cm bt first last cs io s >>= fun _ => segs l

/-! ## The body's beginning and its end -/

/-- At the first point the output's buffer is set to -∞. -/
def init (i : grid0.Coords) : Prog (TpuEff nD τ sig (Elt F) Λ₀ .tc) PUnit :=
  if h : Scalar.cmpi .ne (Scalar.extui (Scalar.cmpi .eq (BitVec.ofNat 32 (i 0).val) 0#32)) 0#32 = 1#1 then do
    let _ : Vec F S16x128 .f32 ← Prog.lift (.load arg6 (Rect.unit (s := S16x128) ![0, 0] S16x128.size inb_S16x128_S16x128_0_0).toLoadRect (View.loadsAt_vmem h_S16x128))
    Prog.lift (.store arg6 (Rect.unit (s := S16x128) ![0, 0] S16x128.size inb_S16x128_S16x128_0_0) (k0_pay84 (F := F)) Finset.univ (View.stores_vmem_bits_univ h_S16x128 rfl) (.inl rfl))
  else pure ⟨⟩

/-- At the last point every entry but -∞ is replaced by its greater with 0. -/
def final (i : grid0.Coords) : Prog (TpuEff nD τ sig (Elt F) Λ₀ .tc) PUnit :=
  if h : Scalar.cmpi .ne (Scalar.extui (Scalar.cmpi .eq (BitVec.ofNat 32 (i 0).val) 4#32)) 0#32 = 1#1 then do
    let v : Vec F S16x128 .f32 ← Prog.lift (.load arg6 (Rect.unit (s := S16x128) ![0, 0] S16x128.size inb_S16x128_S16x128_0_0).toLoadRect (View.loadsAt_vmem h_S16x128))
    let _ : Vec F S16x128 .f32 ← Prog.lift (.load arg6 (Rect.unit (s := S16x128) ![0, 0] S16x128.size inb_S16x128_S16x128_0_0).toLoadRect (View.loadsAt_vmem h_S16x128))
    Prog.lift (.store arg6 (Rect.unit (s := S16x128) ![0, 0] S16x128.size inb_S16x128_S16x128_0_0) (k0_pay3 v) Finset.univ (View.stores_vmem_bits_univ h_S16x128 rfl) (.inl rfl))
  else pure ⟨⟩

/-- The block's first batch number, and its last. -/
def firstOf (b : Vec F S1x8x2512 .i32) : BitVec 32 := extractAt ![0, 0] (k0_pay89 b) inpos_S1x1_p0_0
@[inherit_doc firstOf]
def lastOf (b : Vec F S1x8x2512 .i32) : BitVec 32 := extractAt ![0, 0] (k0_pay90 b) inpos_S1x1_p0_0

variable (i : grid0.Coords) (arg1 : Memref sig .tc .vmem S20096x128 .f32) (arg2 : Memref sig .tc .vmem S4x20096 .f32)
  (arg3 : Memref sig .tc .vmem S1x8x2512 .i32) (arg4 : Memref sig .tc .vmem S128x128 .f32) (arg5 : Memref sig .tc .vmem S4x128 .f32)

/-- The body: set up, the tile's rows computed and stored, the sixteen segments, the end. -/
def body : Prog (TpuEff nD τ sig (Elt F) Λ₀ .tc) PUnit := do
  init arg6 i
  let x : Vec F S20096x128 .f32 ← Prog.lift (.load arg1 (Rect.unit (s := S20096x128) ![0, 0] S20096x128.size inb_S20096x128_S20096x128_0_0).toLoadRect (View.loadsAt_vmem h_S20096x128))
  let w1 : Vec F S128x128 .f32 ← Prog.lift (.load arg4 (Rect.unit (s := S128x128) ![0, 0] S128x128.size inb_S128x128_S128x128_0_0).toLoadRect (View.loadsAt_vmem h_S128x128))
  let p : Vec F S4x20096 .f32 ← Prog.lift (.load arg2 (Rect.unit (s := S4x20096) ![0, 0] S4x20096.size inb_S4x20096_S4x20096_0_0).toLoadRect (View.loadsAt_vmem h_S4x20096))
  let w2 : Vec F S4x128 .f32 ← Prog.lift (.load arg5 (Rect.unit (s := S4x128) ![0, 0] S4x128.size inb_S4x128_S4x128_0_0).toLoadRect (View.loadsAt_vmem h_S4x128))
  let _ : Vec F S20096x128 .f32 ← Prog.lift (.load arg7 (Rect.unit (s := S20096x128) ![0, 0] S20096x128.size inb_S20096x128_S20096x128_0_0).toLoadRect (View.loadsAt_vmem h_S20096x128))
  Prog.lift (.store arg7 (Rect.unit (s := S20096x128) ![0, 0] S20096x128.size inb_S20096x128_S20096x128_0_0) (k0_pay86 x w1 p w2) Finset.univ (View.stores_vmem_bits_univ h_S20096x128 rfl) (.inl rfl))
  let b : Vec F S1x8x2512 .i32 ← Prog.lift (.load arg3 (Rect.unit (s := S1x8x2512) ![0, 0, 0] S1x8x2512.size inb_S1x8x2512_S1x8x2512_0_0_0).toLoadRect (View.loadsAt_vmem h_S1x8x2512))
  segs arg6 arg7 (k0_pay87 x w1 p w2) (k0_pay88 b) (firstOf b) (lastOf b) k0_pay91 (iota .tc S128x1 32 [0] iota_S128x1_d0_w32) (List.finRange 16)
  final arg6 i

variable (harg1 : arg1.IsWhole) (harg2 : arg2.IsWhole) (harg3 : arg3.IsWhole) (harg4 : arg4.IsWhole) (harg5 : arg5.IsWhole)
  (harg6 : arg6.IsWhole) (harg7 : arg7.IsWhole)

theorem part33_eq :
    k0_part33 (F := F) i arg1 harg1 arg2 harg2 arg3 harg3 arg4 harg4 arg5 harg5 arg6 harg6 arg7 harg7 = (do
      init arg6 i
      let x : Vec F S20096x128 .f32 ← Prog.lift (.load arg1 (Rect.unit (s := S20096x128) ![0, 0] S20096x128.size inb_S20096x128_S20096x128_0_0).toLoadRect (View.loadsAt_vmem h_S20096x128))
      let w1 : Vec F S128x128 .f32 ← Prog.lift (.load arg4 (Rect.unit (s := S128x128) ![0, 0] S128x128.size inb_S128x128_S128x128_0_0).toLoadRect (View.loadsAt_vmem h_S128x128))
      let p : Vec F S4x20096 .f32 ← Prog.lift (.load arg2 (Rect.unit (s := S4x20096) ![0, 0] S4x20096.size inb_S4x20096_S4x20096_0_0).toLoadRect (View.loadsAt_vmem h_S4x20096))
      let w2 : Vec F S4x128 .f32 ← Prog.lift (.load arg5 (Rect.unit (s := S4x128) ![0, 0] S4x128.size inb_S4x128_S4x128_0_0).toLoadRect (View.loadsAt_vmem h_S4x128))
      let _ : Vec F S20096x128 .f32 ← Prog.lift (.load arg7 (Rect.unit (s := S20096x128) ![0, 0] S20096x128.size inb_S20096x128_S20096x128_0_0).toLoadRect (View.loadsAt_vmem h_S20096x128))
      Prog.lift (.store arg7 (Rect.unit (s := S20096x128) ![0, 0] S20096x128.size inb_S20096x128_S20096x128_0_0) (k0_pay86 x w1 p w2) Finset.univ (View.stores_vmem_bits_univ h_S20096x128 rfl) (.inl rfl))
      let b : Vec F S1x8x2512 .i32 ← Prog.lift (.load arg3 (Rect.unit (s := S1x8x2512) ![0, 0, 0] S1x8x2512.size inb_S1x8x2512_S1x8x2512_0_0_0).toLoadRect (View.loadsAt_vmem h_S1x8x2512))
      segAt arg6 arg7 (k0_pay87 x w1 p w2) (k0_pay88 b) (firstOf b) (lastOf b) k0_pay91 (iota .tc S128x1 32 [0] iota_S128x1_d0_w32) 0
      pure ⟨BitVec.ofNat 32 (i 0).val, k0_pay87 x w1 p w2, k0_pay88 b, firstOf b, lastOf b, k0_pay91, iota .tc S128x1 32 [0] iota_S128x1_d0_w32, 1#32⟩) := by
  rw [k0_part33_eq_skeleton]
  unfold k0_part33_skel
  extract_lets arg0 v0 v1 v2 v27 ji
  generalize hj : ji = k
  unfold init
  refine ite_step (fun h => rfl) ?_
  rw [← hj]; clear hj k; unfold ji; clear ji
  refine congrArg _ (funext fun x => congrArg _ (funext fun w1 => congrArg _ (funext fun p => congrArg _ (funext fun w2 =>
    congrArg _ (funext fun _ => congrArg _ (funext fun _ => congrArg _ (funext fun b => ?_)))))))
  extract_lets v21 v23 j0
  generalize hj : j0 = k
  refine seg_step (F := F) _ _ _ _ _ _ _ _ 0 (fun h => rfl) ?_
  rw [← hj]; clear hj k; unfold j0; clear j0
  rfl

theorem part34_eq (w : BitVec 32) :
    k0_part34 i arg1 harg1 arg2 harg2 arg3 harg3 arg4 harg4 arg5 harg5 arg6 harg6 arg7 harg7 cm bt first last cs io w
      = (segs arg6 arg7 cm bt first last cs io [1, 2, 3, 4, 5, 6] >>= fun _ =>
        pure ⟨Scalar.extui (Scalar.andi (Scalar.cmpi .sle first 7#32) (Scalar.cmpi .sge last 7#32)), 0#32⟩) := by
  rw [k0_part34_eq_skeleton]
  unfold k0_part34_skel
  conv => rhs; simp only [segs, bind_assoc, pure_bind]
  extract_lets v63 v64 v65 v66 j6 j5 j4 j3 j2 j1
  generalize hj : j1 = k
  refine seg_step (F := F) _ _ _ _ _ _ _ _ 1 (fun h => rfl) ?_
  rw [← hj]; clear hj k; unfold j1; clear j1
  generalize hj : j2 = k
  refine seg_step (F := F) _ _ _ _ _ _ _ _ 2 (fun h => rfl) ?_
  rw [← hj]; clear hj k; unfold j2; clear j2
  generalize hj : j3 = k
  refine seg_step (F := F) _ _ _ _ _ _ _ _ 3 (fun h => rfl) ?_
  rw [← hj]; clear hj k; unfold j3; clear j3
  generalize hj : j4 = k
  refine seg_step (F := F) _ _ _ _ _ _ _ _ 4 (fun h => rfl) ?_
  rw [← hj]; clear hj k; unfold j4; clear j4
  generalize hj : j5 = k
  refine seg_step (F := F) _ _ _ _ _ _ _ _ 5 (fun h => rfl) ?_
  rw [← hj]; clear hj k; unfold j5; clear j5
  generalize hj : j6 = k
  refine seg_step (F := F) _ _ _ _ _ _ _ _ 6 (fun h => rfl) ?_
  rw [← hj]

theorem part35_eq (w w' : BitVec 32) :
    k0_part35 i arg1 harg1 arg2 harg2 arg3 harg3 arg4 harg4 arg5 harg5 arg6 harg6 arg7 harg7 cm bt first last cs io w w'
      = (segs arg6 arg7 cm bt first last cs io [7, 8, 9, 10, 11, 12, 13] >>= fun _ =>
        pure ⟨Scalar.cmpi .sle first 14#32, Scalar.cmpi .sge last 14#32⟩) := by
  rw [k0_part35_eq_skeleton]
  unfold k0_part35_skel
  conv => rhs; simp only [segs, bind_assoc, pure_bind]
  extract_lets v98 v99 j13 j12 j11 j10 j9 j8 j7
  generalize hj : j7 = k
  refine seg_step (F := F) _ _ _ _ _ _ _ _ 7 (fun h => rfl) ?_
  rw [← hj]; clear hj k; unfold j7; clear j7
  generalize hj : j8 = k
  refine seg_step (F := F) _ _ _ _ _ _ _ _ 8 (fun h => rfl) ?_
  rw [← hj]; clear hj k; unfold j8; clear j8
  generalize hj : j9 = k
  refine seg_step (F := F) _ _ _ _ _ _ _ _ 9 (fun h => rfl) ?_
  rw [← hj]; clear hj k; unfold j9; clear j9
  generalize hj : j10 = k
  refine seg_step (F := F) _ _ _ _ _ _ _ _ 10 (fun h => rfl) ?_
  rw [← hj]; clear hj k; unfold j10; clear j10
  generalize hj : j11 = k
  refine seg_step (F := F) _ _ _ _ _ _ _ _ 11 (fun h => rfl) ?_
  rw [← hj]; clear hj k; unfold j11; clear j11
  generalize hj : j12 = k
  refine seg_step (F := F) _ _ _ _ _ _ _ _ 12 (fun h => rfl) ?_
  rw [← hj]; clear hj k; unfold j12; clear j12
  generalize hj : j13 = k
  refine seg_step (F := F) _ _ _ _ _ _ _ _ 13 (fun h => rfl) ?_
  rw [← hj]

/-- The printed body is `body`. -/
theorem body_eq :
    cc0__fused_mlp_segmax (F := F) i arg1 harg1 arg2 harg2 arg3 harg3 arg4 harg4 arg5 harg5 arg6 harg6 arg7 harg7
      = body arg6 arg7 i arg1 arg2 arg3 arg4 arg5 := by
  rw [cc0__fused_mlp_segmax_eq_skeleton]
  unfold cc0__fused_mlp_segmax_skel body
  rw [part33_eq, show List.finRange 16 = [0, 1, 2, 3, 4, 5, 6, 7, 8, 9, 10, 11, 12, 13, 14, 15] by decide]
  refine (bind_assoc ..).trans (congrArg _ (funext fun _ => ?_))
  refine (bind_assoc ..).trans (congrArg _ (funext fun x => ?_))
  refine (bind_assoc ..).trans (congrArg _ (funext fun w1 => ?_))
  refine (bind_assoc ..).trans (congrArg _ (funext fun p => ?_))
  refine (bind_assoc ..).trans (congrArg _ (funext fun w2 => ?_))
  refine (bind_assoc ..).trans (congrArg _ (funext fun _ => ?_))
  refine (bind_assoc ..).trans (congrArg _ (funext fun _ => ?_))
  refine (bind_assoc ..).trans (congrArg _ (funext fun b => ?_))
  refine (bind_assoc ..).trans ?_
  conv => rhs; simp only [segs, bind_assoc, pure_bind]
  refine congrArg _ (funext fun _ => ?_)
  refine (pure_bind _ _).trans ?_
  refine (congrArg (· >>= _) (part34_eq ..)).trans ?_
  conv => lhs; arg 1; simp only [segs]
  refine (bind_assoc ..).trans ?_
  iterate 6 refine (bind_assoc ..).trans (congrArg _ (funext fun _ => ?_))
  refine (pure_bind _ _).trans ((pure_bind _ _).trans ?_)
  refine (congrArg (· >>= _) (part35_eq ..)).trans ?_
  conv => lhs; arg 1; simp only [segs]
  refine (bind_assoc ..).trans ?_
  iterate 7 refine (bind_assoc ..).trans (congrArg _ (funext fun _ => ?_))
  refine (pure_bind _ _).trans ((pure_bind _ _).trans ?_)
  generalize k0_pay87 x w1 p w2 = cm, k0_pay88 b = bt, firstOf b = first, lastOf b = last, (k0_pay91 : IVec S157x1 32) = cs,
    (iota .tc S128x1 32 [0] iota_S128x1_d0_w32 : IVec S128x1 32) = io
  extract_lets v108 v109 v110 jf j15 j14
  generalize hj : j14 = k
  refine seg_step (F := F) _ _ _ _ _ _ _ _ 14 (fun h => rfl) ?_
  rw [← hj]; clear hj k; unfold j14; clear j14
  generalize hj : j15 = k
  refine seg_step (F := F) _ _ _ _ _ _ _ _ 15 (fun h => rfl) ?_
  rw [← hj]; clear hj k; unfold j15; clear j15
  unfold final
  unfold jf
  by_cases h : Scalar.cmpi .ne (Scalar.extui (Scalar.cmpi .eq (BitVec.ofNat 32 (i 0).val) 4#32)) 0#32 = 1#1
  · refine (dif_pos h).trans ?_
    rw [dif_pos h]
    rfl
  · refine (dif_neg h).trans ?_
    rw [dif_neg h]

end Cert.KernelIdeal.Seg

end
-- ==== Proof.Count.lean ====
module

public import proofs.«01_k».proof.Proof.Segment
public import Idealize.ShloMosaic.Lib.WordSum
public import Idealize.ShloMosaic.Lib.WordCmp
public import Idealize.ShloMosaic.Lib.Routing.Words

/-! # The rows a segment takes from a tile

The kernel counts the rows of a tile whose batch number is below a segment's, and those whose number is at most the
segment's.  Here the two counts are numbers, and the blocks of 128 rows that they lead to are inside the tile. -/

@[expose] public section

set_option maxRecDepth 16384

noncomputable section

namespace Cert.KernelIdeal.Seg

open Idealize.ShloMosaic Idealize.SL.Sem
open Cert.KernelIdeal.Gen

/-- The rows where a tile of 0/1 words is 1. -/
def ones (v : IVec S8x2512 1) : Finset S8x2512.Idx := Finset.univ.filter fun i => v i = 1#1

theorem ones_le (v : IVec S8x2512 1) : (ones v).card ≤ 20096 :=
  (Finset.card_filter_le _ _).trans (by rw [Finset.card_univ, Shape.card_idx]; decide)

/-- The sum of a tile's 0/1 words is the number of its ones. -/
theorem total_toNat (v : IVec S8x2512 1) : (total v).toNat = (ones v).card := by
  have hall : ∀ (j : S1.Idx), (Finset.univ.filter fun i : S1x8x2512.Idx => reduces_S1x8x2512_S1.drop i = j) = Finset.univ := fun j =>
    Finset.filter_true_of_mem fun i _ => funext fun a => Fin.ext (by
      have hs : ∀ a, S1.size a = 1 := by decide
      have h1 := (reduces_S1x8x2512_S1.drop i a).isLt; have h2 := (j a).isLt
      have h3 := hs a
      omega)
  have hsum : ∑ i : S1x8x2512.Idx, ((shapeCast S1x8x2512 (extui 32 v natLt_1_32) shapeCasts_S8x2512_S1x8x2512) i).toNat
      = (ones v).card := by
    rw [ones, Finset.card_filter]
    refine (Equiv.sum_comp (Shape.reshapeEquiv shapeCasts_S8x2512_S1x8x2512) fun i => ((extui 32 v natLt_1_32) i).toNat).trans ?_
    refine Finset.sum_congr rfl fun i _ => ?_
    show ((v i).setWidth 32).toNat = _
    have hb : ∀ b : BitVec 1, (b.setWidth 32).toNat = if b = 1#1 then 1 else 0 := by decide
    exact hb (v i)
  have hr : ∀ j, (multiReductionI .add [1, 2] S1
      (shapeCast S1x8x2512 (extui 32 v natLt_1_32) shapeCasts_S8x2512_S1x8x2512) 0#32 reduces_S1x8x2512_S1 rfl j).toNat = (ones v).card := by
    intro j
    have hlt : (ones v).card < 2 ^ 32 := lt_of_le_of_lt (ones_le v) (by norm_num)
    rw [WordSum.toNat_multiReductionI_add _ reduces_S1x8x2512_S1 rfl j (by rw [hall, hsum]; exact hlt), hall, hsum]
  unfold total
  generalize multiReductionI .add [1, 2] S1 (shapeCast S1x8x2512 (extui 32 v natLt_1_32) shapeCasts_S8x2512_S1x8x2512) 0#32
    reduces_S1x8x2512_S1 rfl = r at hr ⊢
  unfold extractAt shapeCast
  exact hr _

variable (bv : BitVec 32) (bt : IVec S8x2512 32)

/-- The rows of a tile below a batch number. -/
def below : Finset S8x2512.Idx := Finset.univ.filter fun i => (bt i).toInt < bv.toInt

/-- The rows of a tile with at most a batch number. -/
def upto : Finset S8x2512.Idx := Finset.univ.filter fun i => (bt i).toInt ≤ bv.toInt

theorem lo_toNat : (lo bv bt).toNat = (below bv bt).card := by
  unfold lo
  rw [total_toNat]
  refine congrArg Finset.card (Finset.filter_congr fun i _ => ?_)
  show BitVec.ofBool (decide ((bt i).toInt < bv.toInt)) = 1#1 ↔ _
  by_cases h : (bt i).toInt < bv.toInt <;> simp [h]

theorem hi_toNat : (hi bv bt).toNat = (upto bv bt).card := by
  unfold hi
  rw [total_toNat]
  refine congrArg Finset.card (Finset.filter_congr fun i _ => ?_)
  show BitVec.ofBool (decide ((bt i).toInt ≤ bv.toInt)) = 1#1 ↔ _
  by_cases h : (bt i).toInt ≤ bv.toInt <;> simp [h]

theorem hi_le : (hi bv bt).toNat ≤ 20096 := by
  unfold hi; rw [total_toNat]; exact ones_le _

/-- Below the number of some row of the tile there are fewer than all rows. -/
theorem lo_lt (i : S8x2512.Idx) (h : bv.toInt ≤ (bt i).toInt) : (lo bv bt).toNat ≤ 20095 := by
  rw [lo_toNat]
  have h1 : (below bv bt).card < (Finset.univ : Finset S8x2512.Idx).card :=
    Finset.card_lt_card (Finset.ssubset_univ_iff.mpr fun he => by
      have : i ∈ below bv bt := he ▸ Finset.mem_univ i
      exact absurd (Finset.mem_filter.mp this).2 (not_lt.mpr h))
  rw [Finset.card_univ, Shape.card_idx, show S8x2512.numel = 20096 by decide] at h1
  omega

theorem pred_toNat (n : BitVec 32) (h : n.toNat ≤ 20096) : (pred n).toNat = n.toNat - 1 := by
  unfold pred
  have hn : n.toInt = n.toNat := WordCmp.toInt_eq_toNat_of_lt_half (by omega)
  show (IntOp.subi (IntOp.maxsi n 1#32) 1#32).toNat = _
  unfold IntOp.subi IntOp.maxsi
  have h1 : (1#32 : BitVec 32).toInt = 1 := by decide
  split
  · rename_i hc; simp only [BitVec.slt, BitVec.sle, hn, h1, decide_eq_true_eq] at hc; bv_omega
  · rename_i hc; simp only [BitVec.slt, BitVec.sle, hn, h1, decide_eq_true_eq] at hc; bv_omega

theorem start_toNat (n : BitVec 32) (h : n.toNat ≤ 20096) : (start n).toNat = n.toNat / 128 * 128 := by
  obtain ⟨k, hk, rfl⟩ : ∃ k, k ≤ 20096 ∧ n = BitVec.ofNat 32 k := ⟨n.toNat, h, by simp⟩
  have hd : Scalar.divsi (BitVec.ofNat 32 k) 128#32 = BitVec.ofNat 32 (k / 128) :=
    Routing.divsi_word .scalar (by omega) (by decide) (by decide)
  have hr : Scalar.remsi (BitVec.ofNat 32 k) 128#32 = BitVec.ofNat 32 (k % 128) :=
    Routing.remsi_word .scalar (by omega) (by decide) (by decide)
  have key : start (BitVec.ofNat 32 k) = Scalar.muli (BitVec.ofNat 32 (k / 128)) 128#32 := by
    unfold start
    rw [hd, hr]
    rcases Nat.eq_zero_or_pos k with h0 | h0
    · subst h0; rfl
    · rw [show Scalar.cmpi .sgt (BitVec.ofNat 32 k) 0#32 = 1#1 from
          (WordCmp.cmpi_sgt_ofNat_eq_one_iff (w := 32) (b := 0) (by omega) (by decide)).mpr h0,
        show Scalar.cmpi .slt (BitVec.ofNat 32 k) 0#32 = 0#1 from
          (WordCmp.cmpi_slt_ofNat_eq_zero_iff (w := 32) (b := 0) (by omega) (by decide)).mpr (by omega)]
      generalize Scalar.cmpi .ne (BitVec.ofNat 32 (k % 128)) 0#32 = c
      revert c
      have : ∀ c : BitVec 1, (Scalar.andi (Scalar.cmpi .ne (Scalar.subi (Scalar.extui (1#1 : BitVec 1)) (Scalar.extui (0#1 : BitVec 1)))
        (Scalar.subi (Scalar.extui (Scalar.cmpi .sgt 128#32 0#32)) (Scalar.extui (Scalar.cmpi .slt 128#32 0#32)) : BitVec 32)) c) = 0#1 := by decide
      intro c
      rw [this c]; rfl
  rw [key]
  show (BitVec.ofNat 32 (k / 128) * 128#32).toNat = _
  simp only [BitVec.toNat_mul, BitVec.toNat_ofNat]
  omega

theorem off_eq (n : BitVec 32) (h : n.toNat ≤ 20095) : off n = ![n.toNat / 128 * 128, 0] := by
  have e : (Scalar.indexCast (start n)).toNat = n.toNat / 128 * 128 := by
    rw [← start_toNat n (by omega)]; rfl
  unfold off; rw [e]

theorem off_inb (n : BitVec 32) (h : n.toNat ≤ 20095) (a : Fin 2) : off n a + S128x128.size a ≤ S20096x128.size a := by
  rw [off_eq n h]
  match a with
  | ⟨0, _⟩ => show n.toNat / 128 * 128 + 128 ≤ 20096; omega
  | ⟨1, _⟩ => show 0 + 128 ≤ 128; omega

/-- When a tile can hold segment `bv`, its last batch number is at least `bv`, its first at most `bv`. -/
theorem cond_iff (first last : BitVec 32) :
    cond bv first last = 1#1 ↔ first.toInt ≤ bv.toInt ∧ bv.toInt ≤ last.toInt := by
  unfold cond
  show Scalar.cmpi .ne (Scalar.extui (Scalar.andi (BitVec.ofBool (decide (first.toInt ≤ bv.toInt)))
    (BitVec.ofBool (decide (bv.toInt ≤ last.toInt))))) 0#32 = 1#1 ↔ _
  by_cases h : first.toInt ≤ bv.toInt <;> by_cases h' : bv.toInt ≤ last.toInt <;> simp [h, h'] <;> decide

theorem lo_inb (first last : BitVec 32) (i : S8x2512.Idx) (hl : last = bt i) (h : cond bv first last = 1#1) :
    (lo bv bt).toNat ≤ 20095 :=
  lo_lt bv bt i (by rw [← hl]; exact ((cond_iff bv first last).mp h).2)

theorem hi_inb : (pred (hi bv bt)).toNat ≤ 20095 := by
  rw [pred_toNat _ (hi_le bv bt)]; have := hi_le bv bt; omega

theorem chk_lo (first last : BitVec 32) (i : S8x2512.Idx) (hl : last = bt i) : chk bv first last (lo bv bt) :=
  fun h => off_inb _ (lo_inb bv bt first last i hl h)

theorem chk_hi (first last : BitVec 32) : chk bv first last (pred (hi bv bt)) :=
  fun _ => off_inb _ (hi_inb bv bt)

end Cert.KernelIdeal.Seg

end
-- ==== Proof.Body.lean ====
module

public import proofs.«01_k».proof.Proof.Count
public import Idealize.ShloMosaic.Lib.VecWindow
public import Idealize.ShloMosaic.Lib.Tactic
public import Idealize.ShloMosaic.Lib.Pipeline.Frame

/-! # What the kernel's body leaves in its buffers

One segment changes one row of the output's buffer and nothing else; the body is the sixteen segments between a
beginning and an end.  What the output's buffer holds afterwards is a function of what the buffers held before. -/

@[expose] public section

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## Loads, stores and side conditions of owned memrefs -/

section Rules

/-- A load of a window of an owned memref gives the window of its contents. -/
theorem wp_load_at (c : Dev nD) {s : Shape} {e : EltTy} {α : Type} (E : Set ℕ) {Q : α → sProp 𝕄} {cs : CoreSpace} {m : Memref sig .tc cs s e} {X : s.Idx → Elt F e} {off size : Fin s.rank → ℕ}
    {inb : ∀ a, off a + size a ≤ s.size a} {hl : m.view.LoadsAt (Rect.unit off size inb).toLoadRect}
    {k : ((Rect.unit off size inb).shape.Idx → Elt F e) → Prog (TpuEff nD τ sig (Elt F) Λ₀ .tc) α} :
    (owns (c : Thread nD τ) m fullShare X : sProp 𝕄)
      ⊢ iprop((owns (c : Thread nD τ) m fullShare X -∗ wp frame (wpE (defs₀ (F := F)) Variants.none c none) E (k (VecWindow.window X off size inb)) Q)
        -∗ wp frame (wpE (defs₀ (F := F)) Variants.none c none) E (Prog.lift (.load m (Rect.unit off size inb).toLoadRect hl) >>= k) Q) := by
  unfold owns
  iintro ⟨%f, %hf, H⟩ Hk
  iapply (wp_load Variants.none (c : Thread nD τ) none E (m := m) (r := (Rect.unit off size inb).toLoadRect) (hl := hl) (k := k)
    (S := m.view.set) (q := fullShare) (f := f) (View.setOn_subset_set _ _)) $$ H
  iintro H
  rw [View.readAt_unit m.view f inb rfl inb, hf]
  iapply Hk
  iexists f
  isplitr; · ipureintro; exact hf
  iexact H

/-- An unmasked store of a window of an owned memref puts the payload over the window of its contents. -/
theorem wp_store_at (c : Dev nD) {s : Shape} {e : EltTy} {α : Type} (E : Set ℕ) {Q : α → sProp 𝕄} {cs : CoreSpace} {m : Memref sig .tc cs s e} {X : s.Idx → Elt F e} {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} :
    (owns (c : Thread nD τ) m fullShare X : sProp 𝕄)
      ⊢ iprop((owns (c : Thread nD τ) m fullShare (VecWindow.put X off size w) -∗ wp frame (wpE (defs₀ (F := F)) Variants.none c none) E (k ⟨⟩) Q)
        -∗ wp frame (wpE (defs₀ (F := F)) Variants.none c none) E (Prog.lift (.store m (Rect.unit off size inb) w Finset.univ hx hm) >>= k) Q) := by
  unfold owns
  iintro ⟨%f, %hf, H⟩ Hk
  rw [← View.writes_nil m.view f]
  iapply (wp_store_writes Variants.none (c : Thread nD τ) none E (m := m) (r := Rect.unit off size inb) (hx := hx) (hm := hm) (k := k) (w := w)
    (S := m.view.set) (f := f) (L := []) (View.set_slice_subset _ _)) $$ H
  iintro H
  iapply Hk
  iexists _
  isplitr
  · ipureintro
    rw [View.read_writes_cons_put m.view f inb w [] rfl, View.writes_nil, hf]
  iexact H

/-- A side condition that holds is passed. -/
theorem wp_assume_at (c : Dev nD) {α : Type} (E : Set ℕ) {Q : α → sProp 𝕄} {P : Prop} {d : Decidable P} (h : P) {k : PLift P → Prog (TpuEff nD τ sig (Elt F) Λ₀ .tc) α} :
    (wp frame (wpE (defs₀ (F := F)) Variants.none c none) E (k ⟨h⟩) Q : sProp 𝕄)
      ⊢ wp frame (wpE (defs₀ (F := F)) Variants.none c none) E (Prog.lift (.assume P d) >>= k) Q :=
  wp_assume Variants.none (c : Thread nD τ) none E h

end Rules

/-! ## One segment -/

/-- The block of 128 rows of the tile that row `n` lies in. -/
def blk (H : Vec F S20096x128 .f32) (n : BitVec 32) : Vec F S128x128 .f32 := fun y =>
  H (Shape.pair ⟨(n.toNat / 128 * 128 + (y 0).val) % 20096, Nat.mod_lt _ (by decide)⟩ (y 1))

theorem window_blk (H : Vec F S20096x128 .f32) (n : BitVec 32) (hn : n.toNat ≤ 20095)
    (inb : ∀ a, off n a + S128x128.size a ≤ S20096x128.size a) :
    VecWindow.window H (off n) S128x128.size inb = blk H n := by
  funext y
  refine congrArg H (funext fun a => Fin.ext ?_)
  have hy : (y 0).val < 128 := (y 0).isLt
  have e : ((Rect.unit (s := S20096x128) (off n) S128x128.size inb).emb y a).val = off n a + 1 * (y a).val := rfl
  have e' : off n a = (![n.toNat / 128 * 128, 0] : Fin 2 → ℕ) a := congrFun (off_eq n hn) a
  refine e.trans ?_
  match a, e' with
  | ⟨0, _⟩, e' =>
    show off n 0 + 1 * (y 0).val = (n.toNat / 128 * 128 + (y 0).val) % 20096
    have e' : off n 0 = n.toNat / 128 * 128 := e'
    rw [e', Nat.mod_eq_of_lt (by omega)]; omega
  | ⟨1, _⟩, e' =>
    show off n 1 + 1 * (y 1).val = (y 1).val
    have e' : off n 1 = 0 := e'
    omega

section Segments

variable (cm : FVec F S157x128 .f32) (bt : IVec S8x2512 32) (first last : BitVec 32) (cs : IVec S157x1 32) (io : IVec S128x1 32)
  (H : Vec F S20096x128 .f32)

/-- The output after segment `s`: its row has taken the tile's rows between the segment's two counts. -/
def segPut (O : Vec F S16x128 .f32) (s : Fin 16) : Vec F S16x128 .f32 :=
  if cond (BitVec.ofNat 32 s.val) first last = 1#1 then
    VecWindow.put O ![s.val, 0] S1x128.size (row cm cs io (lo (BitVec.ofNat 32 s.val) bt) (hi (BitVec.ofNat 32 s.val) bt)
      (blk H (lo (BitVec.ofNat 32 s.val) bt)) (blk H (pred (hi (BitVec.ofNat 32 s.val) bt)))
      (VecWindow.window O ![s.val, 0] S1x128.size (row_inb s)))
  else O

variable (c : Dev nD) (E : Set ℕ) (arg6 : Memref sig .tc .vmem S16x128 .f32) (arg7 : Memref sig .tc .vmem S20096x128 .f32)

/-- A segment leaves the output at `segPut`, and the tile's rows as they were. -/
theorem segAt_triple {α : Type} {Q : α → sProp 𝕄} (i : S8x2512.Idx) (hl : last = bt i) (O : Vec F S16x128 .f32) (s : Fin 16)
    (k : PUnit → Prog (TpuEff nD τ sig (Elt F) Λ₀ .tc) α) :
    iprop(owns (c : Thread nD τ) arg6 fullShare O ∗ owns (c : Thread nD τ) arg7 fullShare H
      ∗ (iprop(owns (c : Thread nD τ) arg6 fullShare (segPut cm bt first last cs io H O s) ∗ owns (c : Thread nD τ) arg7 fullShare H)
        -∗ wp frame (wpE (defs₀ (F := F)) Variants.none c none) E (k ⟨⟩) Q))
      ⊢ wp frame (wpE (defs₀ (F := F)) Variants.none c none) E (segAt arg6 arg7 cm bt first last cs io s >>= k) Q := by
  unfold segAt
  rw [seg_bind]
  unfold segPut
  generalize BitVec.ofNat 32 s.val = bv
  by_cases h : cond bv first last = 1#1
  · rw [dif_pos h, if_pos h]
    unfold segThen
    simp only [bind_assoc]
    refine BIBase.Entails.trans ?_ (wp_assume_at c E (chk_lo bv bt first last i hl))
    refine BIBase.Entails.trans ?_ (wp_assume_at c E (chk_hi bv bt first last))
    iintro ⟨H6, H7, Hk⟩
    iapply (wp_load_at c E) $$ H7
    iintro H7
    iapply (wp_load_at c E) $$ H7
    iintro H7
    iapply (wp_load_at c E) $$ H6
    iintro H6
    iapply (wp_load_at c E) $$ H6
    iintro H6
    iapply (wp_store_at c E) $$ H6
    iintro H6
    rw [window_blk H _ (lo_inb bv bt first last i hl h), window_blk H _ (hi_inb bv bt)]
    iapply Hk
    isplitl [H6]; · iexact H6
    iexact H7
  · rw [dif_neg h, if_neg h]
    iintro ⟨H6, H7, Hk⟩
    iapply Hk
    isplitl [H6]; · iexact H6
    iexact H7

/-- So the segments of a list leave the output at `segPut` of each, one after the other. -/
theorem segs_triple {α : Type} {Q : α → sProp 𝕄} (i : S8x2512.Idx) (hl : last = bt i) (l : List (Fin 16)) (O : Vec F S16x128 .f32)
    (k : PUnit → Prog (TpuEff nD τ sig (Elt F) Λ₀ .tc) α) :
    iprop(owns (c : Thread nD τ) arg6 fullShare O ∗ owns (c : Thread nD τ) arg7 fullShare H
      ∗ (iprop(owns (c : Thread nD τ) arg6 fullShare (l.foldl (segPut cm bt first last cs io H) O) ∗ owns (c : Thread nD τ) arg7 fullShare H)
        -∗ wp frame (wpE (defs₀ (F := F)) Variants.none c none) E (k ⟨⟩) Q))
      ⊢ wp frame (wpE (defs₀ (F := F)) Variants.none c none) E (segs arg6 arg7 cm bt first last cs io l >>= k) Q := by
  induction l generalizing O with
  | nil =>
    simp only [segs, pure_bind, List.foldl_nil]
    iintro ⟨H6, H7, Hk⟩
    iapply Hk
    isplitl [H6]; · iexact H6
    iexact H7
  | cons s l ih =>
    simp only [segs, bind_assoc, List.foldl_cons]
    refine BIBase.Entails.trans ?_ (segAt_triple cm bt first last cs io H c E arg6 arg7 i hl O s _)
    iintro ⟨H6, H7, Hk⟩
    isplitl [H6]; · iexact H6
    isplitl [H7]; · iexact H7
    iintro ⟨H6, H7⟩
    iapply (ih _)
    isplitl [H6]; · iexact H6
    isplitl [H7]; · iexact H7
    iexact Hk

end Segments

/-! ## The whole body -/

/-- The window that is everything. -/
theorem window_full {α : Type} {s : Shape} (X : s.Idx → α) {off : Fin s.rank → ℕ} (inb : ∀ a, off a + s.size a ≤ s.size a) :
    VecWindow.window X off s.size inb = X :=
  funext fun y => congrArg X (Rect.emb_unit_full inb y)

/-- And what is put over everything. -/
theorem put_full {α : Type} {s : Shape} (X : s.Idx → α) {off : Fin s.rank → ℕ} (inb : ∀ a, off a + s.size a ≤ s.size a)
    (w : s.Idx → α) : VecWindow.put X off s.size w = w :=
  (window_full (VecWindow.put X off s.size w) inb).symm.trans (VecWindow.window_put_same X off s.size inb w)

/-- Whether grid point `i` is the first, as the kernel asks it; and the last. -/
abbrev isFirst (i : grid0.Coords) : Prop :=
  Scalar.cmpi .ne (Scalar.extui (Scalar.cmpi .eq (BitVec.ofNat 32 (i 0).val) 0#32)) 0#32 = 1#1
@[inherit_doc isFirst]
abbrev isLast (i : grid0.Coords) : Prop :=
  Scalar.cmpi .ne (Scalar.extui (Scalar.cmpi .eq (BitVec.ofNat 32 (i 0).val) 4#32)) 0#32 = 1#1

/-- The output's buffer after the beginning; -/
def initV (i : grid0.Coords) (O : Vec F S16x128 .f32) : Vec F S16x128 .f32 := if isFirst i then k0_pay84 (F := F) else O
/-- after the end; -/
def finalV (i : grid0.Coords) (O : Vec F S16x128 .f32) : Vec F S16x128 .f32 := if isLast i then k0_pay3 O else O
/-- after the sixteen segments; -/
def segsV (x : Vec F S20096x128 .f32) (p : Vec F S4x20096 .f32) (b : Vec F S1x8x2512 .i32) (w1 : Vec F S128x128 .f32)
    (w2 : Vec F S4x128 .f32) (O : Vec F S16x128 .f32) : Vec F S16x128 .f32 :=
  (List.finRange 16).foldl (segPut (k0_pay87 x w1 p w2) (k0_pay88 b) (firstOf b) (lastOf b) k0_pay91
    (iota .tc S128x1 32 [0] iota_S128x1_d0_w32) (k0_pay86 x w1 p w2)) O
/-- and after the body, from what the buffers held before it. -/
def bodyOut (i : grid0.Coords) (x : Vec F S20096x128 .f32) (p : Vec F S4x20096 .f32) (b : Vec F S1x8x2512 .i32)
    (w1 : Vec F S128x128 .f32) (w2 : Vec F S4x128 .f32) (O : Vec F S16x128 .f32) : Vec F S16x128 .f32 :=
  finalV i (segsV x p b w1 w2 (initV i O))

/-- The block's last batch number is an entry of the block. -/
theorem lastOf_eq (b : Vec F S1x8x2512 .i32) : ∃ i, lastOf b = k0_pay88 b i := ⟨_, rfl⟩

section Whole

variable (c : Dev nD) (E : Set ℕ) (arg6 : Memref sig .tc .vmem S16x128 .f32) (arg7 : Memref sig .tc .vmem S20096x128 .f32)

theorem init_triple {α : Type} {Q : α → sProp 𝕄} (i : grid0.Coords) (O : Vec F S16x128 .f32) (k : PUnit → Prog (TpuEff nD τ sig (Elt F) Λ₀ .tc) α) :
    iprop(owns (c : Thread nD τ) arg6 fullShare O
      ∗ (owns (c : Thread nD τ) arg6 fullShare (initV i O) -∗ wp frame (wpE (defs₀ (F := F)) Variants.none c none) E (k ⟨⟩) Q))
      ⊢ wp frame (wpE (defs₀ (F := F)) Variants.none c none) E (init arg6 i >>= k) Q := by
  unfold init initV
  by_cases h : isFirst i
  · rw [dif_pos h, if_pos h]
    simp only [bind_assoc]
    iintro ⟨H6, Hk⟩
    iapply (wp_load_at c E) $$ H6
    iintro H6
    iapply (wp_store_at c E) $$ H6
    iintro H6
    rw [put_full _ inb_S16x128_S16x128_0_0]
    iapply Hk; iexact H6
  · rw [dif_neg h, if_neg h, pure_bind]
    iintro ⟨H6, Hk⟩
    iapply Hk; iexact H6

theorem final_triple {α : Type} {Q : α → sProp 𝕄} (i : grid0.Coords) (O : Vec F S16x128 .f32) (k : PUnit → Prog (TpuEff nD τ sig (Elt F) Λ₀ .tc) α) :
    iprop(owns (c : Thread nD τ) arg6 fullShare O
      ∗ (owns (c : Thread nD τ) arg6 fullShare (finalV i O) -∗ wp frame (wpE (defs₀ (F := F)) Variants.none c none) E (k ⟨⟩) Q))
      ⊢ wp frame (wpE (defs₀ (F := F)) Variants.none c none) E (final arg6 i >>= k) Q := by
  unfold final finalV
  by_cases h : isLast i
  · rw [dif_pos h, if_pos h]
    simp only [bind_assoc]
    iintro ⟨H6, Hk⟩
    iapply (wp_load_at c E) $$ H6
    iintro H6
    iapply (wp_load_at c E) $$ H6
    iintro H6
    iapply (wp_store_at c E) $$ H6
    iintro H6
    rw [put_full _ inb_S16x128_S16x128_0_0, window_full _ inb_S16x128_S16x128_0_0]
    iapply Hk; iexact H6
  · rw [dif_neg h, if_neg h, pure_bind]
    iintro ⟨H6, Hk⟩
    iapply Hk; iexact H6

variable (i : grid0.Coords) (arg1 : Memref sig .tc .vmem S20096x128 .f32) (arg2 : Memref sig .tc .vmem S4x20096 .f32)
  (arg3 : Memref sig .tc .vmem S1x8x2512 .i32) (arg4 : Memref sig .tc .vmem S128x128 .f32) (arg5 : Memref sig .tc .vmem S4x128 .f32)
  (harg1 : arg1.IsWhole) (harg2 : arg2.IsWhole) (harg3 : arg3.IsWhole) (harg4 : arg4.IsWhole) (harg5 : arg5.IsWhole)
  (harg6 : arg6.IsWhole) (harg7 : arg7.IsWhole)

/-- The body leaves its inputs as they were, the output at `bodyOut` and the scratch at the tile's rows. -/
theorem body_triple {Q : PUnit → sProp 𝕄} (x : Vec F S20096x128 .f32) (p : Vec F S4x20096 .f32) (b : Vec F S1x8x2512 .i32)
    (w1 : Vec F S128x128 .f32) (w2 : Vec F S4x128 .f32) (O : Vec F S16x128 .f32) (H : Vec F S20096x128 .f32) :
    iprop(owns (c : Thread nD τ) arg1 fullShare x ∗ owns (c : Thread nD τ) arg2 fullShare p ∗ owns (c : Thread nD τ) arg3 fullShare b
      ∗ owns (c : Thread nD τ) arg4 fullShare w1 ∗ owns (c : Thread nD τ) arg5 fullShare w2
      ∗ owns (c : Thread nD τ) arg6 fullShare O ∗ owns (c : Thread nD τ) arg7 fullShare H
      ∗ (iprop(owns (c : Thread nD τ) arg1 fullShare x ∗ owns (c : Thread nD τ) arg2 fullShare p ∗ owns (c : Thread nD τ) arg3 fullShare b
          ∗ owns (c : Thread nD τ) arg4 fullShare w1 ∗ owns (c : Thread nD τ) arg5 fullShare w2
          ∗ owns (c : Thread nD τ) arg6 fullShare (bodyOut i x p b w1 w2 O) ∗ owns (c : Thread nD τ) arg7 fullShare (k0_pay86 x w1 p w2))
        -∗ Q ⟨⟩))
      ⊢ wp frame (wpE (defs₀ (F := F)) Variants.none c none) E
        (cc0__fused_mlp_segmax (F := F) i arg1 harg1 arg2 harg2 arg3 harg3 arg4 harg4 arg5 harg5 arg6 harg6 arg7 harg7) Q := by
  rw [body_eq]
  unfold body bodyOut segsV
  obtain ⟨j, hj⟩ := lastOf_eq b
  iintro ⟨H1, H2, H3, H4, H5, H6, H7, Hk⟩
  iapply (init_triple c E arg6 i O _)
  isplitl [H6]; · iexact H6
  iintro H6
  iapply (wp_load_at c E) $$ H1
  iintro H1
  iapply (wp_load_at c E) $$ H4
  iintro H4
  iapply (wp_load_at c E) $$ H2
  iintro H2
  iapply (wp_load_at c E) $$ H5
  iintro H5
  iapply (wp_load_at c E) $$ H7
  iintro H7
  iapply (wp_store_at c E) $$ H7
  iintro H7
  iapply (wp_load_at c E) $$ H3
  iintro H3
  rw [put_full _ inb_S20096x128_S20096x128_0_0, window_full _ inb_S20096x128_S20096x128_0_0, window_full _ inb_S128x128_S128x128_0_0,
    window_full _ inb_S4x20096_S4x20096_0_0, window_full _ inb_S4x128_S4x128_0_0, window_full _ inb_S1x8x2512_S1x8x2512_0_0_0]
  iapply (segs_triple _ _ _ _ _ _ _ c E arg6 arg7 j hj _ _ _)
  isplitl [H6]; · iexact H6
  isplitl [H7]; · iexact H7
  iintro ⟨H6, H7⟩
  rw [← bind_pure (final arg6 i)]
  iapply (final_triple c E arg6 i _ _)
  isplitl [H6]; · iexact H6
  iintro H6
  rw [wp_pure]
  iapply fupd_intro
  iapply Hk
  isplitl [H1]; · iexact H1
  isplitl [H2]; · iexact H2
  isplitl [H3]; · iexact H3
  isplitl [H4]; · iexact H4
  isplitl [H5]; · iexact H5
  isplitl [H6]; · iexact H6
  iexact H7

end Whole

end Cert.KernelIdeal.Seg

end
-- ==== Proof.Region.lean ====
module

public import proofs.«01_k».proof.Proof.Body
public import proofs.«01_k».proof.Proof.Gen.KernelIdeal.Frame
public import Idealize.ShloMosaic.Lib.Claim

/-! # The region: what the body is called with at each grid point, and that the arguments end unchanged

The first input's last block reaches past its array, so there the body finds rows that nothing names.  The frame says
nothing of the output, so it does not need to know what those rows do. -/

@[expose] public section

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch the body keeps the tile's rows in. -/
abbrev scr : Memref sig .tc .vmem S20096x128 .f32 := Memref.whole cc0_scratch0

/-- The region's invariant: the scratch at some contents, and the generator's register. -/
theorem inv_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The first input's buffer at point `t`: the block, and `d` past the array's end. -/
def xat (c : Dev nD) (t : Fin cfg0.N) (d : Vec F S20096x128 .f32) : Vec F S20096x128 .f32 :=
  win0_0.fill (grid0.coords t) d (iblk m c 0 t)

/-- A filler for the rows past the array's end. -/
def junk : Vec F S20096x128 .f32 := fun _ => Scalar.ofBits .f32 0#32

/-- What the body leaves in the output's buffer at point `t`, if it found `O`. -/
def step (c : Dev nD) (t : Fin cfg0.N) (d : Vec F S20096x128 .f32) (O : Vec F S16x128 .f32) : Vec F S16x128 .f32 :=
  bodyOut (grid0.coords t) (xat m c t d) (iblk m c 1 t) (iblk m c 2 t) (iblk m c 3 t) (iblk m c 4 t) O

/-- The output's buffer point after point. -/
def outAt (c : Dev nD) : (n : ℕ) → n < cfg0.N → Vec F S16x128 .f32
  | 0, h => step m c ⟨0, h⟩ junk fun _ => Scalar.ofBits .f32 0#32
  | n + 1, h => step m c ⟨n + 1, h⟩ junk (outAt c n (Nat.lt_of_succ_lt h))

/-- The proof data: the arrays as the region finds them, each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => xat m c t junk
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xat m c t junk := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t.val t.isLt := by dsimp only [dats]

theorem before_0 (c : Dev nD) (t : Fin cfg0.N) (d) : (dats m 0 c).before 0 t d = xat m c t d := by
  rw [Dat.before_fetched _ 0 t (fetch0_0 t) d]
  unfold Dat.fetched Dat.blockOf xat iblk
  rw [A_eq]
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- After the first point the output's buffer holds what the point before left. -/
theorem before_5 (c : Dev nD) (n : ℕ) (h : n + 1 < cfg0.N) (d) :
    (dats m 0 c).before 5 ⟨n + 1, h⟩ d = outAt m c n (Nat.lt_of_succ_lt h) := by
  have hN : n + 1 < 5 := lt_of_lt_of_eq h (show cfg0.N = 5 from N_0)
  rw [Dat.before_out_kept _ 5 rfl ⟨n + 1, h⟩ (Nat.succ_ne_zero n)
    (Bool.eq_false_iff.mpr fun h => by have := (flush0_5 _).mp h; dsimp only at this; omega) (fun _ => rfl) (fun _ _ => rfl)]
  dsimp only [dats]
  rfl

/-! ## The body at a point -/

/-- The body at any point, its inputs at their blocks, the output's buffer at any contents. -/
theorem point_triple (c : Dev nD) (t : Fin cfg0.N) (d : Vec F S20096x128 .f32) (O : Vec F S16x128 .f32) {Q : PUnit → sProp 𝕄} :
    iprop(Pipeline.ΦA spec0 c
      ∗ owns (c : Thread nD τ) (st0_0 t) fullShare (xat m c t d)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare O
      ∗ (iprop(Pipeline.ΦA spec0 c
          ∗ owns (c : Thread nD τ) (st0_0 t) fullShare (xat m c t d)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ owns (c : Thread nD τ) (st0_4 t) fullShare (iblk m c 4 t)
          ∗ owns (c : Thread nD τ) (st0_5 t) fullShare (step m c t d O)) -∗ Q ⟨⟩))
      ⊢ wp frame (wpE (defs₀ (F := F)) Variants.none c none) Set.univ (bodyAt0 t) Q := by
  unfold bodyAt0 step
  rw [inv_eq]
  iintro ⟨⟨⟨%H, HS⟩, Hg⟩, H0, H1, H2, H3, H4, H5, Hk⟩
  iapply (body_triple c Set.univ (st0_5 t) scr (grid0.coords t) (st0_0 t) (st0_1 t) (st0_2 t) (st0_3 t) (st0_4 t) _ _ _ _ _ _ _
    (xat m c t d) (iblk m c 1 t) (iblk m c 2 t) (iblk m c 3 t) (iblk m c 4 t) O H)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  iapply Hk
  isplitl [HS Hg]
  · isplitl [HS]
    · iexists _; iexact HS
    iexact Hg
  isplitl [H0]; · iexact H0
  isplitl [H1]; · iexact H1
  isplitl [H2]; · iexact H2
  isplitl [H3]; · iexact H3
  isplitl [H4]; · iexact H4
  iexact H5

/-- The body table's row at point `t`'s slots is the body at that point. -/
theorem defs₀_row (t : Fin cfg0.N) : defs₀ (F := F) .tc cfg0.body (cfg0.bodyArgs t (cfg0.slots t)) = bodyAt0 t := by
  unfold defs₀; rw [Defs.onTc_tc]

/-- What is left in the first input's buffer is its block where the array reaches. -/
theorem xat_cut (c : Dev nD) (t : Fin cfg0.N) (d : Vec F S20096x128 .f32) :
    xat m c t d = win0_0.fill (grid0.coords t) d (win0_0.cut (grid0.coords t) (xat m c t junk)) := by
  unfold xat; rw [win0_0.cut_fill]

/-! ## The frame -/

/-- The frame names nothing of the output. -/
def fgt : Fin cfg0.W → Bool := fun | 0 => false | 1 => false | 2 => false | 3 => false | 4 => false | 5 => true | ⟨_ + 6, h⟩ => absurd h (Nat.not_lt.2 (Nat.le_add_left _ _))

theorem forget_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ X, owns (c : Thread nD τ) (st0_5 t) fullShare X))
    ⊢ wp frame (wpE (defs₀ (F := F)) Variants.none c none) Set.univ (bodyAt0 t) fun _ =>
      iprop((dats m 0 c).Φ t.succ ∗ (dats m 0 c).owesAt () t.succ
        ∗ (∃ d, owns (c : Thread nD τ) (st0_0 t) fullShare (win0_0.fill (grid0.coords t) d (win0_0.cut (grid0.coords t) ((dats m 0 c).after 0 t))))
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ (∃ X, owns (c : Thread nD τ) (st0_5 t) fullShare X)) := by
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4]
  iintro ⟨HI, Ho, ⟨%d0, H0⟩, ⟨%d1, H1⟩, ⟨%d2, H2⟩, ⟨%d3, H3⟩, ⟨%d4, H4⟩, ⟨%O, H5⟩⟩
  iapply (point_triple m c t d0 O)
  isplitl [HI]; · iexact HI
  isplitl [H0]; · iexact H0
  isplitl [H1]; · iexact H1
  isplitl [H2]; · iexact H2
  isplitl [H3]; · iexact H3
  isplitl [H4]; · iexact H4
  isplitl [H5]; · iexact H5
  iintro ⟨HI, H0, H1, H2, H3, H4, H5⟩
  isplitl [HI]; · iexact HI
  isplitl [Ho]; · iexact Ho
  isplitl [H0]; · iexists d0; rw [← xat_cut m c t d0]; iexact H0
  isplitl [H1]; · iexact H1
  isplitl [H2]; · iexact H2
  isplitl [H3]; · iexact H3
  isplitl [H4]; · iexact H4
  iexists _; iexact H5

theorem obligation_forget (c : Dev nD) :
    BodyObligationLoose (dats (F := F) m 0 c) (defs₀ (F := F)) Variants.none () Set.univ fgt := fun t => by
  rw [bigSep_W0, bigSep_W0, defs₀_row]
  exact triple_restated (forget_body m c t) rfl .rfl fun _ => .rfl

/-- The buffers the lines after the region write. -/
def late : Finset (Ref sig .tc) := {main_cst_1, main_v11, main_v12}

theorem late_writes : ∀ ops ∈ ([hostOps1] : List (List (HloOp τ sig (Elt F)))), ∀ op ∈ ops,
    ∀ b : Ref sig .tc, Proc.devRef .tc b ∈ op.writes → b ∈ late := by
  intro ops hops op hop b hb
  simp only [List.mem_cons, List.mem_nil_iff, or_false] at hops
  rcases hops with rfl
  simp only [hostOps1, List.mem_cons, List.mem_nil_iff, or_false] at hop
  rcases hop with rfl | rfl | rfl <;>
    (simp only [StableHlo.nullary_writes, StableHlo.unary_writes, StableHlo.binary_writes, Finset.mem_singleton] at hb
     have := Proc.devRef_injective _ hb
     subst this
     decide)

set_option backward.isDefEq.respectTransparency.types false in
set_option maxHeartbeats 800000 in
/-- The run that names nothing of the output. -/
theorem run_forget : θ_run defs (onTc (τ := τ) (main (F := F))) (s₀ m ρ) (fun r =>
    Pipeline.RDat.FramePostR cfg0 (fun c => (dats m 0 c).toRForget fgt) late (fun c b => V0 m c (Proc.devRef .tc b)) r ∧ r.2.sem = fun _ => 0) :=
  Pipeline.θ_run_frame_around_T_forget (Q' := _) cfgs (dats m) (0 : Fin 1) launch0 defs₀ Variants.none fgt late m ρ main
    (hbody := fun c => obligation_forget m c) (hshare := fun c => (dats m 0 c).share_full fun _ => rfl)
    (howed := fun _ _ => rfl) (V₀ := V0 m) (opss := [hostOps1]) (hsub := sfx_sub) (hfresh := sfx_fresh) (hkeep := sfx_keeps)
    (hT := late_writes) (hmain := hmain m Variants.none) (hA := A_eq m) (hΦ := fun _ _ => rfl)

/-- The arguments end as they began, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1.arr_in c 0 rfl).trans ((A_eq m c 0).trans (V_main_arg0 m c)),
     ((h.1 c).2 main_arg1 (by decide)).trans (V_main_arg1 m c),
     ((h.1 c).2 main_arg2 (by decide)).trans (V_main_arg2 m c),
     ((h.1 c).2 main_arg3 (by decide)).trans (V_main_arg3 m c),
     ((h.1 c).2 main_arg4 (by decide)).trans (V_main_arg4 m c)⟩, h.2⟩) (run_forget m ρ)

end Cert.KernelIdeal.Seg

end
-- ==== Proof.Values.lean ====
module

public import proofs.«01_k».proof.Proof.Region
public import Idealize.ShloMosaic.Lib.Pointwise

/-! # What one tile contributes, over the extended reals

A tile's segment takes the greatest of the tile's rows between its two counts: the whole blocks of 128 rows between them,
and the two blocks at the ends.  When the tile's batch numbers do not decrease, these are the rows with the segment's
number. -/

@[expose] public section

set_option maxRecDepth 16384

noncomputable section

namespace Cert.KernelIdeal.Seg

open Idealize.ShloMosaic Idealize.SL.Sem
open Cert.KernelIdeal.Gen

/-- The word of -∞ is the least extended real. -/
theorem ofBits_bot : Ideal.ofBits FTy.f32 (0xFF800000#32 : BitVec 32) = ⊥ := by simp [Ideal.ofBits, Ideal.ieee]

/-- The greatest of a finite family, as the reductions fold it. -/
theorem fold_max_bot {α : Type} (s : Finset α) (f : α → EReal) : s.fold max ⊥ f = s.sup f := rfl

/-! ## The tile's rows, and the greatest of each block -/

section Rows

variable (x : Vec Ideal S20096x128 .f32) (w1 : Vec Ideal S128x128 .f32) (p : Vec Ideal S4x20096 .f32) (w2 : Vec Ideal S4x128 .f32)

theorem rows_apply (r : Fin 20096) (j : Fin 128) :
    k0_pay85 x w1 p w2 (ix2 r j) = (∑ k : Fin 128, x (ix2 r k) * w1 (ix2 k j)) + ∑ k : Fin 4, p (ix2 k r) * w2 (ix2 k j) := by
  pointwise [k0_pay85]

theorem stored_apply (r : Fin 20096) (j : Fin 128) : k0_pay86 x w1 p w2 (ix2 r j) = k0_pay85 x w1 p w2 (ix2 r j) := by
  pointwise [k0_pay86]

theorem chunk_apply (k : Fin 157) (j : Fin 128) :
    k0_pay87 x w1 p w2 (ix2 k j) = Finset.univ.sup fun y : Fin 128 => k0_pay86 x w1 p w2 (ix2 ⟨k.val * 128 + y.val, by omega⟩ j) := by
  simp only [stored_apply]
  pointwise [k0_pay87]
  rw [ofBits_bot]
  rfl

end Rows

/-! ## The three parts of a segment -/

theorem select_if {α : Type} (c : BitVec 1) (a b : α) : Scalar.select c a b = if c = 1#1 then a else b := rfl

theorem andi_one (a b : BitVec 1) : IntOp.andi a b = 1#1 ↔ a = 1#1 ∧ b = 1#1 := by
  revert a b; decide

theorem sge_iff {a b : BitVec 32} (ha : a.toNat < 2 ^ 31) (hb : b.toNat < 2 ^ 31) :
    IntOp.cmpi .sge a b = 1#1 ↔ b.toNat ≤ a.toNat := by
  rw [WordCmp.cmpi_sge_of_lt ha hb, WordCmp.ofBool_decide_eq_one_iff]

theorem sle_iff {a b : BitVec 32} (ha : a.toNat < 2 ^ 31) (hb : b.toNat < 2 ^ 31) :
    IntOp.cmpi .sle a b = 1#1 ↔ a.toNat ≤ b.toNat := by
  rw [WordCmp.cmpi_sle_of_lt ha hb, WordCmp.ofBool_decide_eq_one_iff]

theorem slt_iff {a b : BitVec 32} (ha : a.toNat < 2 ^ 31) (hb : b.toNat < 2 ^ 31) :
    IntOp.cmpi .slt a b = 1#1 ↔ a.toNat < b.toNat := by
  rw [WordCmp.cmpi_slt_of_lt ha hb, WordCmp.ofBool_decide_eq_one_iff]

/-- Where block `k` of the tile begins. -/
theorem begin_toNat (k : Fin 157) : (k0_pay91 (ix2 k 0)).toNat = k.val * 128 := by
  have h : k0_pay91 (ix2 k 0) = BitVec.ofNat 32 k.val * 128#32 := by pointwise [k0_pay91]; rfl
  have e : (BitVec.ofNat 32 k.val * 128#32).toNat = k.val % 2 ^ 32 * 128 % 2 ^ 32 := by
    rw [BitVec.toNat_mul, BitVec.toNat_ofNat]; rfl
  rw [h, e]
  omega

theorem whole_apply (cm : FVec Ideal S157x128 .f32) (l h : BitVec 32) (hl : l.toNat ≤ 20096) (hh : h.toNat ≤ 20096) (j : Fin 128) :
    whole cm k0_pay91 l h (ix2 0 j)
      = Finset.univ.sup fun k : Fin 157 => if l.toNat ≤ k.val * 128 ∧ k.val * 128 + 128 ≤ h.toNat then cm (ix2 k j) else ⊥ := by
  have hc : ∀ k : Fin 157, (IntOp.andi (IntOp.cmpi .sge (k0_pay91 (ix2 k 0)) l)
      (IntOp.cmpi .sle (IntOp.addi (k0_pay91 (ix2 k 0)) 128#32) h) = 1#1)
        = (l.toNat ≤ k.val * 128 ∧ k.val * 128 + 128 ≤ h.toNat) := fun k => by
    have h1 := begin_toNat k
    have h2 : (IntOp.addi (k0_pay91 (ix2 k 0)) 128#32).toNat = k.val * 128 + 128 := by
      show (k0_pay91 (ix2 k 0) + 128#32).toNat = _
      rw [BitVec.toNat_add, h1]
      have : (128#32 : BitVec 32).toNat = 128 := rfl
      omega
    rw [andi_one, sge_iff (by omega) (by omega), sle_iff (by omega) (by omega), h1, h2]
  pointwise [whole]
  simp only [ofBits_bot, select_if, hc]
  rfl

/-- The rows of a tile between two counts, of the block that begins at row `a`. -/
theorem edge_apply (B : Vec Ideal S128x128 .f32) (l h st : BitVec 32) (hl : l.toNat ≤ 20096) (hh : h.toNat ≤ 20096) (hst : st.toNat ≤ 20096)
    (j : Fin 128) :
    edge (F := Ideal) (iota .tc S128x1 32 [0] iota_S128x1_d0_w32) l h st B (ix2 0 j)
      = Finset.univ.sup fun y : Fin 128 => if l.toNat ≤ st.toNat + y.val ∧ st.toNat + y.val < h.toNat then B (ix2 y j) else ⊥ := by
  have hc : ∀ y : Fin 128, (IntOp.andi (IntOp.cmpi .sge (IntOp.addi (BitVec.ofNat 32 y.val) st) l)
      (IntOp.cmpi .slt (IntOp.addi (BitVec.ofNat 32 y.val) st) h) = 1#1)
        = (l.toNat ≤ st.toNat + y.val ∧ st.toNat + y.val < h.toNat) := fun y => by
    have h2 : (IntOp.addi (BitVec.ofNat 32 y.val) st).toNat = st.toNat + y.val := by
      show (BitVec.ofNat 32 y.val + st).toNat = _
      rw [BitVec.toNat_add, BitVec.toNat_ofNat]
      omega
    rw [andi_one, sge_iff (by omega) (by omega), slt_iff (by omega) (by omega), h2]
  pointwise [edge]
  simp only [ofBits_bot, select_if, hc]
  rfl

/-- The whole blocks between two counts and the rows between them of the two blocks at the ends are all the rows between
    them. -/
theorem between_sup (g : Fin 20096 → EReal) (l h : ℕ) (hl : l ≤ 20095) (hh : h ≤ 20096) :
    max (max (Finset.univ.sup fun k : Fin 157 => if l ≤ k.val * 128 ∧ k.val * 128 + 128 ≤ h then
          Finset.univ.sup fun y : Fin 128 => g ⟨k.val * 128 + y.val, by omega⟩ else ⊥)
        (Finset.univ.sup fun y : Fin 128 => if l ≤ l / 128 * 128 + y.val ∧ l / 128 * 128 + y.val < h then
          g ⟨(l / 128 * 128 + y.val) % 20096, Nat.mod_lt _ (by decide)⟩ else ⊥))
      (Finset.univ.sup fun y : Fin 128 => if l ≤ (h - 1) / 128 * 128 + y.val ∧ (h - 1) / 128 * 128 + y.val < h then
          g ⟨((h - 1) / 128 * 128 + y.val) % 20096, Nat.mod_lt _ (by decide)⟩ else ⊥)
      = (Finset.univ.filter fun r : Fin 20096 => l ≤ r.val ∧ r.val < h).sup g := by
  have up : ∀ r : Fin 20096, l ≤ r.val → r.val < h →
      g r ≤ (Finset.univ.filter fun r : Fin 20096 => l ≤ r.val ∧ r.val < h).sup g := fun r h1 h2 =>
    Finset.le_sup (f := g) (Finset.mem_filter.mpr ⟨Finset.mem_univ r, h1, h2⟩)
  refine le_antisymm (max_le (max_le ?_ ?_) ?_) (Finset.sup_le fun r hr => ?_)
  · refine Finset.sup_le fun k _ => ?_
    split_ifs with hk
    · exact Finset.sup_le fun y _ => up _ (by simp only; omega) (by simp only; omega)
    · exact bot_le
  · refine Finset.sup_le fun y _ => ?_
    split_ifs with hy
    · exact up _ (by simp only; omega) (by simp only; omega)
    · exact bot_le
  · refine Finset.sup_le fun y _ => ?_
    split_ifs with hy
    · exact up _ (by simp only; omega) (by simp only; omega)
    · exact bot_le
  · obtain ⟨-, h1, h2⟩ := Finset.mem_filter.mp hr
    have hr' := r.isLt
    by_cases c1 : r.val / 128 = l / 128
    · refine le_max_of_le_left (le_max_of_le_right ?_)
      refine le_trans (le_of_eq ?_) (Finset.le_sup (Finset.mem_univ (⟨r.val % 128, Nat.mod_lt _ (by decide)⟩ : Fin 128)))
      rw [if_pos (by simp only; omega)]
      exact congrArg g (Fin.ext (by simp only; omega))
    · by_cases c2 : r.val / 128 = (h - 1) / 128
      · refine le_max_of_le_right ?_
        refine le_trans (le_of_eq ?_) (Finset.le_sup (Finset.mem_univ (⟨r.val % 128, Nat.mod_lt _ (by decide)⟩ : Fin 128)))
        rw [if_pos (by simp only; omega)]
        exact congrArg g (Fin.ext (by simp only; omega))
      · refine le_max_of_le_left (le_max_of_le_left ?_)
        refine le_trans ?_ (Finset.le_sup (Finset.mem_univ (⟨r.val / 128, by omega⟩ : Fin 157)))
        rw [if_pos (by simp only; omega)]
        refine le_trans (le_of_eq ?_) (Finset.le_sup (Finset.mem_univ (⟨r.val % 128, Nat.mod_lt _ (by decide)⟩ : Fin 128)))
        exact congrArg g (Fin.ext (by simp only; omega))

theorem blk_apply (H : Vec Ideal S20096x128 .f32) (n : BitVec 32) (y j : Fin 128) :
    blk H n (ix2 y j) = H (ix2 ⟨(n.toNat / 128 * 128 + y.val) % 20096, Nat.mod_lt _ (by decide)⟩ j) := by
  unfold blk
  refine congrArg H (funext fun a => ?_)
  match a with
  | ⟨0, _⟩ => rfl
  | ⟨1, _⟩ => rfl

/-- The row stored: the old one against the tile's rows between the two counts. -/
theorem row_apply (cm : FVec Ideal S157x128 .f32) (H : Vec Ideal S20096x128 .f32)
    (hcm : ∀ (k : Fin 157) (j : Fin 128), cm (ix2 k j) = Finset.univ.sup fun y : Fin 128 => H (ix2 ⟨k.val * 128 + y.val, by omega⟩ j))
    (l h : BitVec 32) (hl : l.toNat ≤ 20095) (hh : h.toNat ≤ 20096) (old : Vec Ideal S1x128 .f32) (j : Fin 128) :
    row cm k0_pay91 (iota .tc S128x1 32 [0] iota_S128x1_d0_w32) l h (blk H l) (blk H (pred h)) old (ix2 0 j)
      = max (old (ix2 0 j)) ((Finset.univ.filter fun r : Fin 20096 => l.toNat ≤ r.val ∧ r.val < h.toNat).sup fun r => H (ix2 r j)) := by
  have e : row cm k0_pay91 (iota .tc S128x1 32 [0] iota_S128x1_d0_w32) l h (blk H l) (blk H (pred h)) old (ix2 0 j)
      = max (old (ix2 0 j)) (max (max (whole cm k0_pay91 l h (ix2 0 j))
          (edge (F := Ideal) (iota .tc S128x1 32 [0] iota_S128x1_d0_w32) l h (start l) (blk H l) (ix2 0 j)))
          (edge (F := Ideal) (iota .tc S128x1 32 [0] iota_S128x1_d0_w32) l h (start (pred h)) (blk H (pred h)) (ix2 0 j))) := by
    pointwise [row]
  have hp := pred_toNat h hh
  have s1 := start_toNat l (by omega)
  have s2 := start_toNat (pred h) (by omega)
  rw [e, whole_apply cm l h (by omega) hh j, edge_apply _ l h _ (by omega) hh (by omega) j,
    edge_apply _ l h _ (by omega) hh (by omega) j, s1, s2, hp]
  simp only [blk_apply, hcm, hp]
  rw [between_sup (fun r => H (ix2 r j)) l.toNat h.toNat hl hh]

/-! ## A sorted tile -/

/-- The batch number of row `r` of a tile. -/
def word (bt : IVec S8x2512 32) (r : Fin 20096) : BitVec 32 :=
  bt (ix2 ⟨r.val / 2512, by omega⟩ ⟨r.val % 2512, Nat.mod_lt _ (by decide)⟩)

/-- Up to any row that names a segment the tile's batch numbers do not decrease.  (The rows past the last are numbered 16,
    and a number above 16 may stand before them.) -/
def Sorted (bt : IVec S8x2512 32) : Prop :=
  ∀ r r' : Fin 20096, r ≤ r' → (word bt r').toInt < 16 → (word bt r).toInt ≤ (word bt r').toInt

theorem name_toInt (s : Fin 16) : (BitVec.ofNat 32 s.val).toInt < 16 := by revert s; decide

/-- Rows counted over the tile's two axes are rows counted along it. -/
theorem card_tile (P : BitVec 32 → Prop) [DecidablePred P] (bt : IVec S8x2512 32) :
    (Finset.univ.filter fun i : S8x2512.Idx => P (bt i)).card = (Finset.univ.filter fun r : Fin 20096 => P (word bt r)).card := by
  symm
  refine Finset.card_nbij' (fun r => ix2 ⟨r.val / 2512, by omega⟩ ⟨r.val % 2512, Nat.mod_lt _ (by decide)⟩)
    (fun i => ⟨(i 0).val * 2512 + (i 1).val, ?_⟩) ?_ ?_ ?_ ?_
  · have h0 : (i 0).val < 8 := (i 0).isLt
    have h1 : (i 1).val < 2512 := (i 1).isLt
    omega
  · intro r hr
    simp only [Finset.coe_filter, Finset.mem_univ, true_and, Set.mem_setOf_eq] at hr ⊢
    exact hr
  · intro i hi
    simp only [Finset.coe_filter, Finset.mem_univ, true_and, Set.mem_setOf_eq] at hi ⊢
    unfold word
    have h1 : (i 1).val < 2512 := (i 1).isLt
    convert hi using 2
    conv_rhs => rw [eq_ix2 i]
    exact congrArg₂ ix2 (Fin.ext (by dsimp only; omega)) (Fin.ext (by dsimp only; omega))
  · intro r _
    exact Fin.ext (by show r.val / 2512 * 2512 + r.val % 2512 = r.val; omega)
  · intro i _
    have h1 : (i 1).val < 2512 := (i 1).isLt
    conv_rhs => rw [eq_ix2 i]
    exact congrArg₂ ix2 (Fin.ext (by dsimp only; omega)) (Fin.ext (by dsimp only; omega))

/-- A condition that holds up to some row and not after holds of the rows before its count. -/
theorem lt_card_iff {N : ℕ} (P : Fin N → Prop) [DecidablePred P] (hP : ∀ r r', r ≤ r' → P r' → P r) (r : Fin N) :
    r.val < (Finset.univ.filter P).card ↔ P r := by
  constructor
  · intro h
    by_contra hn
    have hs : Finset.univ.filter P ⊆ Finset.Iio r := fun q hq => by
      rw [Finset.mem_Iio]
      by_contra hq'
      exact hn (hP r q (not_lt.mp hq') (Finset.mem_filter.mp hq).2)
    have := Finset.card_le_card hs
    rw [Fin.card_Iio] at this
    omega
  · intro h
    have hs : Finset.Iic r ⊆ Finset.univ.filter P := fun q hq =>
      Finset.mem_filter.mpr ⟨Finset.mem_univ q, hP q r (Finset.mem_Iic.mp hq) h⟩
    have := Finset.card_le_card hs
    rw [Fin.card_Iic] at this
    omega

theorem lo_le_of_word (bt : IVec S8x2512 32) (bv : BitVec 32) (r : Fin 20096) (h : bv.toInt ≤ (word bt r).toInt) :
    (lo bv bt).toNat ≤ 20095 := lo_lt bv bt _ h

section Tile

variable {bt : IVec S8x2512 32} (hs : Sorted bt)
include hs

/-- The rows between a segment's two counts are those with its number. -/
theorem between_iff (bv : BitVec 32) (hb : bv.toInt < 16) (r : Fin 20096) :
    (lo bv bt).toNat ≤ r.val ∧ r.val < (hi bv bt).toNat ↔ word bt r = bv := by
  have h1 : r.val < (lo bv bt).toNat ↔ (word bt r).toInt < bv.toInt := by
    rw [lo_toNat, below, card_tile (fun w => w.toInt < bv.toInt) bt,
      lt_card_iff (fun r => (word bt r).toInt < bv.toInt) (fun q q' h h' => lt_of_le_of_lt (hs q q' h (h'.trans hb)) h')]
  have h2 : r.val < (hi bv bt).toNat ↔ (word bt r).toInt ≤ bv.toInt := by
    rw [hi_toNat, upto, card_tile (fun w => w.toInt ≤ bv.toInt) bt,
      lt_card_iff (fun r => (word bt r).toInt ≤ bv.toInt) (fun q q' h h' => le_trans (hs q q' h (lt_of_le_of_lt h' hb)) h')]
  rw [← not_lt, h1, h2]
  constructor
  · rintro ⟨a, b⟩
    exact BitVec.eq_of_toInt_eq (le_antisymm b (not_lt.mp a))
  · rintro rfl
    exact ⟨lt_irrefl _, le_rfl⟩

/-- The greatest row of a segment in the tile. -/
def top (bt : IVec S8x2512 32) (H : Vec Ideal S20096x128 .f32) (s : Fin 16) (j : Fin 128) : EReal :=
  (Finset.univ.filter fun r : Fin 20096 => word bt r = BitVec.ofNat 32 s.val).sup fun r => H (ix2 r j)

variable (cm : FVec Ideal S157x128 .f32) (H : Vec Ideal S20096x128 .f32)
  (hcm : ∀ (k : Fin 157) (j : Fin 128), cm (ix2 k j) = Finset.univ.sup fun y : Fin 128 => H (ix2 ⟨k.val * 128 + y.val, by omega⟩ j))
include hcm

/-- One segment's turn: its row of the output against the greatest of its rows. -/
theorem segPut_apply (O : Vec Ideal S16x128 .f32) (s s' : Fin 16) (j : Fin 128) :
    segPut cm bt (word bt 0) (word bt (Fin.last 20095)) k0_pay91 (iota .tc S128x1 32 [0] iota_S128x1_d0_w32) H O s (ix2 s' j)
      = if s' = s then max (O (ix2 s' j)) (top bt H s j) else O (ix2 s' j) := by
  unfold segPut
  by_cases hc : cond (BitVec.ofNat 32 s.val) (word bt 0) (word bt (Fin.last 20095)) = 1#1
  · rw [if_pos hc]
    unfold VecWindow.put
    by_cases hss : s' = s
    · subst hss
      rw [if_pos rfl, dif_pos (by intro a; match a with
        | ⟨0, _⟩ => exact ⟨le_rfl, Nat.lt_succ_self _⟩
        | ⟨1, _⟩ => exact ⟨Nat.zero_le _, by simpa using j.isLt⟩)]
      have hl := lo_le_of_word bt (BitVec.ofNat 32 s'.val) (Fin.last 20095) ((cond_iff _ _ _).mp hc).2
      have e : ∀ h, Rect.unitLocal (s := S16x128) (off := ![s'.val, 0]) (size := S1x128.size) (ix2 s' j) h
          = (ix2 (0 : Fin 1) j : S1x128.Idx) := fun h => funext fun a => by
        match a with
        | ⟨0, _⟩ => exact Fin.ext (Nat.sub_self _)
        | ⟨1, _⟩ => exact Fin.ext (Nat.sub_zero _)
      have ew : VecWindow.window O ![s'.val, 0] S1x128.size (row_inb s') (ix2 (0 : Fin 1) j : S1x128.Idx) = O (ix2 s' j) :=
        congrArg O (funext fun a => by
          match a with
          | ⟨0, _⟩ => exact Fin.ext (by show s'.val + 1 * 0 = s'.val; omega)
          | ⟨1, _⟩ => exact Fin.ext (by show 0 + 1 * j.val = j.val; omega))
      refine (congrArg _ (e _)).trans ((row_apply cm H hcm _ _ hl (hi_le _ bt) _ j).trans ?_)
      rw [ew]
      unfold top
      exact congrArg (fun S : Finset (Fin 20096) => max (O (ix2 s' j)) (S.sup _)) (Finset.filter_congr fun r _ => between_iff hs _ (name_toInt s') r)
    · rw [if_neg hss, dif_neg]
      intro h
      have := h 0
      exact hss (Fin.ext (by have a := this.1; have b := this.2; simp at a b; omega))
  · rw [if_neg hc]
    split_ifs with hss
    · rw [cond_iff] at hc
      have : top bt H s j = ⊥ := by
        unfold top
        rw [Finset.filter_eq_empty_iff.mpr, Finset.sup_empty]
        rintro r - hr
        have hb := name_toInt s
        rw [← hr] at hc hb
        refine hc ⟨hs 0 r (Fin.zero_le r) hb, ?_⟩
        by_contra hn
        exact hn (hs r _ (Fin.le_last r) (lt_trans (not_le.mp hn) hb))
      rw [this, max_eq_left bot_le]
    · rfl

/-- All the segments' turns, of a list that names each at most once. -/
theorem segs_apply (l : List (Fin 16)) (hl : l.Nodup) (O : Vec Ideal S16x128 .f32) (s : Fin 16) (j : Fin 128) :
    l.foldl (segPut cm bt (word bt 0) (word bt (Fin.last 20095)) k0_pay91 (iota .tc S128x1 32 [0] iota_S128x1_d0_w32) H) O (ix2 s j)
      = if s ∈ l then max (O (ix2 s j)) (top bt H s j) else O (ix2 s j) := by
  induction l generalizing O with
  | nil => rfl
  | cons a l ih =>
    obtain ⟨ha, hl⟩ := List.nodup_cons.mp hl
    rw [List.foldl_cons, ih hl, segPut_apply hs cm H hcm]
    by_cases h : s = a
    · subst h
      rw [if_neg ha, if_pos rfl, if_pos (List.mem_cons_self ..)]
    · rw [if_neg h]
      simp only [List.mem_cons, h, false_or]

end Tile

/-- What a tile leaves of an output row: the old value against the greatest of the segment's rows in the tile. -/
theorem segsV_apply (x : Vec Ideal S20096x128 .f32) (p : Vec Ideal S4x20096 .f32) (b : Vec Ideal S1x8x2512 .i32)
    (w1 : Vec Ideal S128x128 .f32) (w2 : Vec Ideal S4x128 .f32) (hs : Sorted (k0_pay88 b)) (O : Vec Ideal S16x128 .f32)
    (s : Fin 16) (j : Fin 128) :
    segsV x p b w1 w2 O (ix2 s j) = max (O (ix2 s j)) (top (k0_pay88 b) (k0_pay86 x w1 p w2) s j) := by
  have e1 : firstOf b = word (k0_pay88 b) 0 := by pointwise [firstOf, k0_pay89, word]
  have e2 : lastOf b = word (k0_pay88 b) (Fin.last 20095) := by pointwise [lastOf, k0_pay90, word]
  unfold segsV
  rw [e1, e2, segs_apply hs _ _ (chunk_apply x w1 p w2) _ (List.nodup_finRange 16), if_pos (List.mem_finRange s)]

theorem bt_apply (b : Vec Ideal S1x8x2512 .i32) (a : Fin 8) (c : Fin 2512) : k0_pay88 b (ix2 a c) = b (ix3 0 a c) := by
  pointwise [k0_pay88]

theorem start_apply (s : Fin 16) (j : Fin 128) : k0_pay84 (F := Ideal) (ix2 s j) = ⊥ := by
  pointwise [k0_pay84]
  exact ofBits_bot

theorem finish_apply (O : Vec Ideal S16x128 .f32) (s : Fin 16) (j : Fin 128) :
    k0_pay3 O (ix2 s j) = if O (ix2 s j) = ⊥ then ⊥ else max (O (ix2 s j)) 0 := by
  pointwise [k0_pay3]
  rw [ofBits_bot]
  split_ifs with h
  · exact h
  · rfl

end Cert.KernelIdeal.Seg

end
-- ==== Proof.Exact.lean ====
module

public import proofs.«01_k».proof.Proof.Region
public import Idealize.ShloMosaic.Lib.Pipeline.ValueKit.Geometry

/-! # The run that names the results

If the rows past the first input's end do nothing to the output, each grid point leaves in the output's buffer what
`outAt` says, and the last point's is written back whole. -/

@[expose] public section

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's one coordinate at a point is the point's number. -/
theorem coord_val (t : Fin cfg0.N) : (grid0.coords t 0).val = t.val := by
  have e0 : (grid0.coords t 0).val = t.val / 1 % 5 := Pipeline.Grid.coords_val t 0 (by decide) rfl
  have hN : t.val < 5 := lt_of_lt_of_eq t.isLt (show cfg0.N = 5 from N_0)
  omega

theorem isFirst_iff (t : Fin cfg0.N) : isFirst (grid0.coords t) ↔ t.val = 0 := by
  unfold isFirst
  rw [coord_val]
  have hN : t.val < 5 := lt_of_lt_of_eq t.isLt (show cfg0.N = 5 from N_0)
  exact (by decide : ∀ n : Fin 5, Scalar.cmpi .ne (Scalar.extui (Scalar.cmpi .eq (BitVec.ofNat 32 n.val) 0#32)) 0#32 = 1#1 ↔ n.val = 0) ⟨t.val, hN⟩

theorem isLast_iff (t : Fin cfg0.N) : isLast (grid0.coords t) ↔ t.val = 4 := by
  unfold isLast
  rw [coord_val]
  have hN : t.val < 5 := lt_of_lt_of_eq t.isLt (show cfg0.N = 5 from N_0)
  exact (by decide : ∀ n : Fin 5, Scalar.cmpi .ne (Scalar.extui (Scalar.cmpi .eq (BitVec.ofNat 32 n.val) 4#32)) 0#32 = 1#1 ↔ n.val = 4) ⟨t.val, hN⟩

/-- The first point overwrites whatever the output's buffer held. -/
theorem step_first (c : Dev nD) (h : 0 < cfg0.N) (d : Vec F S20096x128 .f32) (O O' : Vec F S16x128 .f32) :
    step m c ⟨0, h⟩ d O = step m c ⟨0, h⟩ d O' := by
  have hf : isFirst (grid0.coords (⟨0, h⟩ : Fin cfg0.N)) := (isFirst_iff _).mpr rfl
  unfold step bodyOut initV
  rw [if_pos hf, if_pos hf]

/-- What a point leaves, from what it finds. -/
theorem outAt_step (hd : ∀ c t d O, step m c t d O = step m c t junk O) (c : Dev nD) (t : Fin cfg0.N) (d : Vec F S20096x128 .f32) (d') :
    step m c t d ((dats m 0 c).before 5 t d') = outAt m c t.val t.isLt := by
  rw [hd]
  obtain ⟨n, h⟩ := t
  cases n with
  | zero => exact step_first m c h _ _ _
  | succ n => rw [before_5]; rfl

theorem exact_body (hd : ∀ c t d O, step m c t d O = step m c t junk O) (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := F)) Variants.none c none) Set.univ (bodyAt0 t) fun _ =>
      iprop((dats m 0 c).Φ t.succ ∗ (dats m 0 c).owesAt () t.succ
        ∗ (∃ d, owns (c : Thread nD τ) (st0_0 t) fullShare (win0_0.fill (grid0.coords t) d (win0_0.cut (grid0.coords t) ((dats m 0 c).after 0 t))))
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)) := by
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5]
  iintro ⟨HI, Ho, ⟨%d0, H0⟩, ⟨%d1, H1⟩, ⟨%d2, H2⟩, ⟨%d3, H3⟩, ⟨%d4, H4⟩, ⟨%d5, H5⟩⟩
  iapply (point_triple m c t d0 ((dats m 0 c).before 5 t d5))
  isplitl [HI]; · iexact HI
  isplitl [H0]; · iexact H0
  isplitl [H1]; · iexact H1
  isplitl [H2]; · iexact H2
  isplitl [H3]; · iexact H3
  isplitl [H4]; · iexact H4
  isplitl [H5]; · iexact H5
  rw [outAt_step m hd c t d0 d5]
  iintro ⟨HI, H0, H1, H2, H3, H4, H5⟩
  isplitl [HI]; · iexact HI
  isplitl [Ho]; · iexact Ho
  isplitl [H0]; · iexists d0; rw [← xat_cut m c t d0]; iexact H0
  isplitl [H1]; · iexact H1
  isplitl [H2]; · iexact H2
  isplitl [H3]; · iexact H3
  isplitl [H4]; · iexact H4
  iexact H5

theorem obligation_exact (hd : ∀ c t d O, step m c t d O = step m c t junk O) (c : Dev nD) :
    BodyObligationLoose (dats (F := F) m 0 c) (defs₀ (F := F)) Variants.none () Set.univ := fun t => by
  rw [bigSep_W0, bigSep_W0, defs₀_row]
  exact triple_restated (exact_body m hd c t) rfl .rfl fun _ => .rfl

set_option backward.isDefEq.respectTransparency.types false in
set_option maxHeartbeats 800000 in
/-- The run, every array at what the points leave in it. -/
theorem run_exact (hd : ∀ c t d O, step m c t d O = step m c t junk O) :
    θ_run defs (onTc (τ := τ) (main (F := F))) (s₀ m ρ) (fun r =>
      Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => obligation_exact m hd c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem lt_N (n : ℕ) (h : n < 5) : n < cfg0.N := lt_of_lt_of_eq h (show 5 = cfg0.N from N_0.symm)

/-- The output's array ends at what the last point leaves. -/
theorem final_out (c : Dev nD) : (dats m 0 c).arrAt 5 cfg0.N = outAt m c 4 (lt_N 4 (by decide)) := by
  funext i
  refine ((dats m 0 c).arrAt_emb_eq_after_last 5 ⟨4, lt_N 4 (by decide)⟩ (by decide +kernel) i).trans ?_
  exact congrFun (after_5 m c ⟨4, lt_N 4 (by decide)⟩) i

/-- After the run: the three results, and the arguments as they began. -/
theorem results_run (hd : ∀ c t d O, step m c t d O = step m c t junk O) :
    θ_run defs (onTc (τ := τ) (main (F := F))) ⟨m, fun _ => 0, ρ⟩ (fun r => ∀ c : Dev nD,
      r.2.mem ((c.tc : Thread nD τ).loc main_v10) = outAt m c 4 (lt_N 4 (by decide))
      ∧ r.2.mem ((c.tc : Thread nD τ).loc main_v11) = broadcastInDim S16x3 ![] bcast_S_S16x3 (constant S_ .f32 0x00000000#32)
      ∧ r.2.mem ((c.tc : Thread nD τ).loc main_v12) = iotaInDim S16 32 0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    refine ⟨((h.1 c).1 5).trans (final_out m c), ?_, ?_,
      ((h.1 c).1 0).trans (((dats m 0 c).arrAt_in 0 rfl _).trans ((A_eq m c 0).trans (V_main_arg0 m c))),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c)),
      (((h.1 c).2 main_arg4 (Pipeline.mem_restRefs_of main_arg4 (by decide) (by decide))).trans (W_main_arg4 m (dats m) c))⟩
    · refine ((h.1 c).2 main_v11 (Pipeline.mem_restRefs_of main_v11 (by decide) (by decide))).trans ?_
      unfold Pipeline.afterTail₀
      simp only [List.flatten_cons, List.flatten_nil, List.append_nil]
      after_results_simp
    · refine ((h.1 c).2 main_v12 (Pipeline.mem_restRefs_of main_v12 (by decide) (by decide))).trans ?_
      unfold Pipeline.afterTail₀
      simp only [List.flatten_cons, List.flatten_nil, List.append_nil]
      after_results_simp) (run_exact m ρ hd)

end Cert.KernelIdeal.Seg

end
-- ==== Proof.Blocks.lean ====
module

public import proofs.«01_k».proof.Proof.Exact
public import Idealize.ShloMosaic.Lib.Pointwise

/-! # What the body finds in its inputs

The five arguments, the arrays the host lines make of them, and each grid point's block of each array, read at a
place. -/

@[expose] public section

set_option maxRecDepth 16384

noncomputable section

namespace Cert.KernelIdeal.Seg

open Idealize.ShloMosaic Idealize.ShloMosaic.TcCoe Idealize.ShloMosaic.Tactic Idealize.SL.Sem
open Cert.KernelIdeal.Gen

variable (m : (ℓ : Loc nD τ sig) → Buf (Elt Ideal) ℓ) (c : Dev nD)

/-! ## The arguments -/

def arg0 : Vec Ideal S100000x128 .f32 := m ((c.tc : Thread nD τ).loc main_arg0)
def arg1 : Vec Ideal S100000x3 .f32 := m ((c.tc : Thread nD τ).loc main_arg1)
def arg2 : Vec Ideal S100000 .i32 := m ((c.tc : Thread nD τ).loc main_arg2)
def arg3 : Vec Ideal S131x128 .f32 := m ((c.tc : Thread nD τ).loc main_arg3)
def arg4 : Vec Ideal S128 .f32 := m ((c.tc : Thread nD τ).loc main_arg4)

/-! ## The arrays the host lines prepare -/

theorem v0_apply (k j : Fin 128) :
    V m c main_v0 (ix2 k j) = arg3 m c (ix2 ⟨k.val, by omega⟩ j) := by
  have e : V m c main_v0 = extractStridedSlice S128x128 ![0, 0] (arg3 m c) slices_S131x128_S128x128_0_0 := by
    unfold V V0
    simp only [hostOps0, hostOps0_1, hostOps0_2, hostOps0_3, hostOps0_4, List.flatten_cons, List.flatten_nil, List.append_nil,
      List.cons_append, List.nil_append]
    after_results_simp
    rfl
  rw [e]
  pointwise

theorem v3_apply (k : Fin 4) (j : Fin 128) :
    V m c main_v3 (ix2 k j) = if h : k.val < 3 then arg3 m c (ix2 ⟨128 + k.val, by omega⟩ j)
      else arg4 m c (ix1 j) := by
  have e : V m c main_v3 = concatenate S4x128 0 [⟨S3x128, extractStridedSlice S3x128 ![128, 0] (arg3 m c) slices_S131x128_S3x128_128_0⟩,
      ⟨S1x128, shapeCast S1x128 (arg4 m c) shapeCasts_S128_S1x128⟩] concatenates_S3x128_S1x128_S4x128_d0 := by
    unfold V V0
    simp only [hostOps0, hostOps0_1, hostOps0_2, hostOps0_3, hostOps0_4, List.flatten_cons, List.flatten_nil, List.append_nil,
      List.cons_append, List.nil_append]
    after_results_simp
    rfl
  rw [e]
  pointwise

theorem v7_apply (k : Fin 4) (n : Fin 100480) (hn : n.val < 100000) :
    (V m c main_v7 : Vec Ideal S4x100480 .f32) (ix2 k n) = if h : k.val < 3 then arg1 m c (ix2 ⟨n.val, hn⟩ ⟨k.val, h⟩) else (1 : EReal) := by
  have e : V m c main_v7 = pad S4x100480 ![0, 0] ![0, 480] ![0, 0]
      (concatenate S4x100000 0 [⟨S3x100000, transpose S3x100000 [1, 0] (arg1 m c) transposes_S100000x3_S3x100000_1_0⟩,
        ⟨S1x100000, broadcastInDim S1x100000 ![] bcast_S_S1x100000 (constant (F := Ideal) S_ .f32 0x3F800000#32)⟩] concatenates_S3x100000_S1x100000_S4x100000_d0)
      (sitofp (F := Ideal) .f32 (constantI S_ 32 0#32)) pads_S4x100000_S4x100480_000_04800 h_S_ := by
    unfold V V0
    simp only [hostOps0, hostOps0_1, hostOps0_2, hostOps0_3, hostOps0_4, List.flatten_cons, List.flatten_nil, List.append_nil,
      List.cons_append, List.nil_append]
    after_results_simp
    rfl
  rw [e]
  pointwise
  rw [dif_pos hn]

theorem v9_apply (t : Fin 5) (a : Fin 8) (b : Fin 2512) :
    V m c main_v9 (ix3 t a b) = if h : t.val * 20096 + a.val * 2512 + b.val < 100000 then
      arg2 m c (ix1 ⟨t.val * 20096 + a.val * 2512 + b.val, h⟩) else 16#32 := by
  have e : V m c main_v9 = shapeCast S5x8x2512 (pad S100480 ![0] ![480] ![0] (arg2 m c) (constantI S_ 32 16#32)
      pads_S100000_S100480_04800 h_S_) shapeCasts_S100480_S5x8x2512 := by
    unfold V V0
    simp only [hostOps0, hostOps0_1, hostOps0_2, hostOps0_3, hostOps0_4, List.flatten_cons, List.flatten_nil, List.append_nil,
      List.cons_append, List.nil_append]
    after_results_simp
    rfl
  rw [e]
  pointwise

/-! ## The blocks of the inputs -/

theorem index0 : ∀ t : Fin grid0.N, win0_0.index t = ![(grid0.coords t 0).val, 0] := by decide +kernel
theorem index1 : ∀ t : Fin grid0.N, win0_1.index t = ![0, (grid0.coords t 0).val] := by decide +kernel
theorem index2 : ∀ t : Fin grid0.N, win0_2.index t = ![(grid0.coords t 0).val, 0, 0] := by decide +kernel
theorem index3 : ∀ t : Fin grid0.N, win0_3.index t = ![0, 0] := by decide +kernel
theorem index4 : ∀ t : Fin grid0.N, win0_4.index t = ![0, 0] := by decide +kernel

/-- The last block of the first input holds the array's last 19616 rows. -/
theorem reach0 : ∀ t : Fin grid0.N, ∀ r : Fin 20096, t.val * 20096 + r.val < 100000 → r.val < win0_0.xsize (grid0.coords t) 0 := by
  intro t r h
  have hx : win0_0.xsize (grid0.coords t) 0 = if t.val = 4 then 19616 else 20096 :=
    (by decide +kernel : ∀ t : Fin grid0.N, win0_0.xsize (grid0.coords t) 0 = if t.val = 4 then 19616 else 20096) t
  rw [hx]
  split_ifs <;> omega

theorem reach1 : ∀ t : Fin grid0.N, win0_0.xsize (grid0.coords t) 1 = 128 := by decide +kernel

theorem lt_five (t : Fin cfg0.N) : t.val < 5 := lt_of_lt_of_eq t.isLt (show cfg0.N = 5 from N_0)

theorem blk1_apply (t : Fin cfg0.N) (k : Fin 4) (r : Fin 20096) :
    (iblk m c 1 t : Vec Ideal S4x20096 .f32) (ix2 k r)
      = (V m c main_v7 : Vec Ideal S4x100480 .f32) (ix2 k ⟨t.val * 20096 + r.val, by have := lt_five t; omega⟩) := by
  have hc := coord_val t
  have hi := index1 t
  unfold iblk
  blk_simp
  refine congrArg (V m c main_v7 : Vec Ideal S4x100480 .f32) ?_
  blk_ext [hi, hc]

theorem blk2_apply (t : Fin cfg0.N) (a : Fin 8) (b : Fin 2512) :
    (iblk m c 2 t : Vec Ideal S1x8x2512 .i32) (ix3 0 a b)
      = (V m c main_v9 : Vec Ideal S5x8x2512 .i32) (ix3 ⟨t.val, lt_five t⟩ a b) := by
  have hc := coord_val t
  have hi := index2 t
  unfold iblk
  blk_simp
  refine congrArg (V m c main_v9 : Vec Ideal S5x8x2512 .i32) ?_
  blk_ext [hi, hc]

theorem blk3_apply (t : Fin cfg0.N) (k j : Fin 128) :
    (iblk m c 3 t : Vec Ideal S128x128 .f32) (ix2 k j) = (V m c main_v0 : Vec Ideal S128x128 .f32) (ix2 k j) := by
  have hi := index3 t
  unfold iblk
  blk_simp
  refine congrArg (V m c main_v0 : Vec Ideal S128x128 .f32) ?_
  blk_ext [hi]

theorem blk4_apply (t : Fin cfg0.N) (k : Fin 4) (j : Fin 128) :
    (iblk m c 4 t : Vec Ideal S4x128 .f32) (ix2 k j) = (V m c main_v3 : Vec Ideal S4x128 .f32) (ix2 k j) := by
  have hi := index4 t
  unfold iblk
  blk_simp
  refine congrArg (V m c main_v3 : Vec Ideal S4x128 .f32) ?_
  blk_ext [hi]

theorem blk0_apply (t : Fin cfg0.N) (d : Vec Ideal S20096x128 .f32) (r : Fin 20096) (k : Fin 128) (h : t.val * 20096 + r.val < 100000) :
    xat m c t d (ix2 r k) = arg0 m c (ix2 ⟨t.val * 20096 + r.val, h⟩ k) := by
  have hc := coord_val t
  have hi := index0 t
  have hm : win0_0.moved (grid0.coords t) (ix2 r k) = true := by
    rw [win0_0.moved_iff]
    intro a
    match a with
    | ⟨0, _⟩ => exact reach0 t r h
    | ⟨1, _⟩ => exact lt_of_lt_of_eq k.isLt (reach1 t).symm
  unfold xat Pipeline.Window.fill
  rw [dif_pos hm]
  unfold iblk
  blk_simp
  refine (congrFun (V_main_arg0 m c) _).trans (congrArg (arg0 m c) ?_)
  blk_ext [hi, hc]

end Cert.KernelIdeal.Seg

end
-- ==== Proof.Value.lean ====
module

public import proofs.«01_k».proof.Proof.Values
public import proofs.«01_k».proof.Proof.Blocks

/-! # What the kernel leaves in its first result

For segment `s` and column `j`, over the extended reals: with `M` the greatest of the segment's features, -∞ if `M` is -∞
and otherwise the greater of `M` and 0. -/

@[expose] public section

set_option maxRecDepth 16384

noncomputable section

namespace Cert.KernelIdeal.Seg

open Idealize.ShloMosaic Idealize.ShloMosaic.TcCoe Idealize.ShloMosaic.Tactic Idealize.SL.Sem
open Cert.KernelIdeal.Gen

variable (m : (ℓ : Loc nD τ sig) → Buf (Elt Ideal) ℓ) (c : Dev nD)

/-- A row's feature before the maximum with 0, as the kernel sums it: the 128 channels, then the three coordinates and the
    bias. -/
def feat (n : Fin 100000) (j : Fin 128) : EReal :=
  (∑ k : Fin 128, arg0 m c (ix2 n k) * arg3 m c (ix2 ⟨k.val, by omega⟩ j))
    + ∑ k : Fin 4, (if h : k.val < 3 then arg1 m c (ix2 n ⟨k.val, h⟩) else (1 : EReal))
        * (if h : k.val < 3 then arg3 m c (ix2 ⟨128 + k.val, by omega⟩ j) else arg4 m c (ix1 j))

/-- The rows of a tile, but those past the last row. -/
theorem rows_eq (t : Fin cfg0.N) (d : Vec Ideal S20096x128 .f32) (r : Fin 20096) (j : Fin 128) (h : t.val * 20096 + r.val < 100000) :
    k0_pay86 (xat m c t d) (iblk m c 3 t) (iblk m c 1 t) (iblk m c 4 t) (ix2 r j) = feat m c ⟨t.val * 20096 + r.val, h⟩ j := by
  rw [stored_apply, rows_apply]
  unfold feat
  refine congrArg₂ (· + ·) (Finset.sum_congr rfl fun k _ => ?_) (Finset.sum_congr rfl fun k _ => ?_)
  · exact congrArg₂ (· * ·) (blk0_apply m c t d r k h) ((blk3_apply m c t k j).trans (v0_apply m c k j))
  · exact congrArg₂ (· * ·) ((blk1_apply m c t k r).trans (v7_apply m c k _ h)) ((blk4_apply m c t k j).trans (v3_apply m c k j))

/-- The tile's batch numbers: the array's, and 16 past its end. -/
theorem word_eq (t : Fin cfg0.N) (r : Fin 20096) :
    word (k0_pay88 (F := Ideal) (iblk m c 2 t)) r
      = if h : t.val * 20096 + r.val < 100000 then arg2 m c (ix1 ⟨t.val * 20096 + r.val, h⟩) else 16#32 := by
  have e : t.val * 20096 + r.val / 2512 * 2512 + r.val % 2512 = t.val * 20096 + r.val := by omega
  unfold word
  refine (bt_apply _ _ _).trans ((blk2_apply m c t _ _).trans ((v9_apply m c _ _ _).trans ?_))
  simp only [e]

/-- The batch numbers do not decrease. -/
def Ordered : Prop := ∀ n n' : Fin 100000, n ≤ n' → (arg2 m c (ix1 n) : BitVec 32).toInt ≤ (arg2 m c (ix1 n') : BitVec 32).toInt

theorem tile_sorted (ho : Ordered m c) (t : Fin cfg0.N) : Sorted (k0_pay88 (F := Ideal) (iblk m c 2 t)) := by
  intro r r' h hb
  rw [word_eq] at hb ⊢
  rw [word_eq]
  have hr : r.val ≤ r'.val := h
  split_ifs at hb with h'
  · rw [dif_pos h', dif_pos (by omega)]
    exact ho _ _ (by show t.val * 20096 + r.val ≤ t.val * 20096 + r'.val; omega)
  · exact absurd hb (by decide)

/-- The greatest feature of a segment among the rows that `P` picks. -/
def best (P : Fin 100000 → Prop) [DecidablePred P] (s : Fin 16) (j : Fin 128) : EReal :=
  (Finset.univ.filter fun n : Fin 100000 => P n ∧ (arg2 m c (ix1 n) : BitVec 32) = BitVec.ofNat 32 s.val).sup fun n => feat m c n j

theorem le_best (P : Fin 100000 → Prop) [DecidablePred P] (s : Fin 16) (j : Fin 128) (n : Fin 100000) (h : P n)
    (hn : (arg2 m c (ix1 n) : BitVec 32) = BitVec.ofNat 32 s.val) : feat m c n j ≤ best m c P s j :=
  Finset.le_sup (f := fun n => feat m c n j) (Finset.mem_filter.mpr ⟨Finset.mem_univ n, h, hn⟩)

theorem best_le {P : Fin 100000 → Prop} [DecidablePred P] {s : Fin 16} {j : Fin 128} {M : EReal}
    (h : ∀ n, P n → (arg2 m c (ix1 n) : BitVec 32) = BitVec.ofNat 32 s.val → feat m c n j ≤ M) : best m c P s j ≤ M :=
  Finset.sup_le fun n hn => h n (Finset.mem_filter.mp hn).2.1 (Finset.mem_filter.mp hn).2.2

theorem sixteen_ne (s : Fin 16) : (16#32 : BitVec 32) ≠ BitVec.ofNat 32 s.val := by revert s; decide

/-- No row past the last has a segment's number, so a tile's greatest is that of its rows of the arrays. -/
theorem top_eq (t : Fin cfg0.N) (d : Vec Ideal S20096x128 .f32) (s : Fin 16) (j : Fin 128) :
    top (k0_pay88 (F := Ideal) (iblk m c 2 t)) (k0_pay86 (xat m c t d) (iblk m c 3 t) (iblk m c 1 t) (iblk m c 4 t)) s j
      = best m c (fun n => n.val / 20096 = t.val) s j := by
  unfold top
  refine le_antisymm (Finset.sup_le fun r hr => ?_) (best_le m c fun n hn hs => ?_)
  · have hw := (Finset.mem_filter.mp hr).2
    rw [word_eq] at hw
    split_ifs at hw with h
    · rw [rows_eq m c t d r j h]
      exact le_best m c _ s j _ (by dsimp only; omega) hw
    · exact absurd hw (sixteen_ne s)
  · have h : t.val * 20096 + n.val % 20096 = n.val := by omega
    have h' : t.val * 20096 + n.val % 20096 < 100000 := by have := n.isLt; omega
    have hr : (⟨n.val % 20096, Nat.mod_lt _ (by decide)⟩ : Fin 20096) ∈ Finset.univ.filter fun r : Fin 20096 =>
        word (k0_pay88 (F := Ideal) (iblk m c 2 t)) r = BitVec.ofNat 32 s.val := by
      refine Finset.mem_filter.mpr ⟨Finset.mem_univ _, ?_⟩
      rw [word_eq, dif_pos h', ← hs]
      exact congrArg (arg2 m c) (congrArg ix1 (Fin.ext h))
    refine le_trans (le_of_eq ?_) (Finset.le_sup hr)
    rw [rows_eq m c t d _ j h']
    exact congrArg (fun n => feat m c n j) (Fin.ext h.symm)

/-- What the last point makes of the greatest feature. -/
def finish (M : EReal) : EReal := if M = ⊥ then ⊥ else max M 0

/-- One grid point's effect on an output row. -/
theorem step_apply (ho : Ordered m c) (t : Fin cfg0.N) (d : Vec Ideal S20096x128 .f32) (O : Vec Ideal S16x128 .f32) (s : Fin 16) (j : Fin 128) :
    step m c t d O (ix2 s j)
      = (if t.val = 4 then finish else id) (max (if t.val = 0 then ⊥ else O (ix2 s j)) (best m c (fun n => n.val / 20096 = t.val) s j)) := by
  have h0 : initV (grid0.coords t) O (ix2 s j) = if t.val = 0 then ⊥ else O (ix2 s j) := by
    unfold initV
    simp only [isFirst_iff]
    split_ifs
    · exact start_apply s j
    · rfl
  have h1 : ∀ O' : Vec Ideal S16x128 .f32, finalV (grid0.coords t) O' (ix2 s j) = (if t.val = 4 then finish else id) (O' (ix2 s j)) := fun O' => by
    unfold finalV
    simp only [isLast_iff]
    split_ifs
    · exact finish_apply O' s j
    · rfl
  unfold step bodyOut
  rw [h1, segsV_apply _ _ _ _ _ (tile_sorted m c ho t), h0, top_eq]

/-- So the rows past the last do nothing. -/
theorem step_junk (ho : ∀ c, Ordered m c) (c : Dev nD) (t : Fin cfg0.N) (d : Vec Ideal S20096x128 .f32) (O : Vec Ideal S16x128 .f32) :
    step m c t d O = step m c t junk O := by
  funext y
  rw [eq_ix2 y]
  exact (step_apply m c (ho c) t d O _ _).trans (step_apply m c (ho c) t junk O _ _).symm

theorem best_next (n : ℕ) (s : Fin 16) (j : Fin 128) :
    max (best m c (fun v => v.val / 20096 ≤ n) s j) (best m c (fun v => v.val / 20096 = n + 1) s j)
      = best m c (fun v => v.val / 20096 ≤ n + 1) s j := by
  refine le_antisymm (max_le (best_le m c fun v hv hs => le_best m c _ s j v (by omega) hs)
    (best_le m c fun v hv hs => le_best m c _ s j v (by omega) hs)) (best_le m c fun v hv hs => ?_)
  by_cases h : v.val / 20096 ≤ n
  · exact le_max_of_le_left (le_best m c _ s j v h hs)
  · exact le_max_of_le_right (le_best m c (fun v => v.val / 20096 = n + 1) s j v (by omega) hs)

/-- After the points before the last, the greatest of the rows so far. -/
theorem outAt_apply (ho : Ordered m c) (n : ℕ) (h : n < cfg0.N) (hn : n < 4) (s : Fin 16) (j : Fin 128) :
    outAt m c n h (ix2 s j) = best m c (fun v => v.val / 20096 ≤ n) s j := by
  induction n with
  | zero =>
    unfold outAt
    rw [step_apply m c ho]
    simp only [Nat.reduceEqDiff, if_false, if_true, id, bot_le, max_eq_right, Nat.le_zero]
  | succ n ih =>
    unfold outAt
    rw [step_apply m c ho, ih (Nat.lt_of_succ_lt h) (by omega)]
    simp only [if_neg (show ¬ n + 1 = 4 by omega), if_neg (Nat.succ_ne_zero n), id]
    exact best_next m c n s j

/-- After the last, what the kernel returns. -/
theorem out_apply (ho : Ordered m c) (h : 4 < cfg0.N) (s : Fin 16) (j : Fin 128) :
    outAt m c 4 h (ix2 s j) = finish (best m c (fun _ => True) s j) := by
  have e : best m c (fun v => v.val / 20096 ≤ 3 + 1) s j = best m c (fun _ => True) s j :=
    le_antisymm (best_le m c fun v _ hs => le_best m c _ s j v trivial hs)
      (best_le m c fun v _ hs => le_best m c (fun v => v.val / 20096 ≤ 3 + 1) s j v (by have := v.isLt; omega) hs)
  unfold outAt
  rw [step_apply m c ho, outAt_apply m c ho 3 (Nat.lt_of_succ_lt h) (by decide)]
  simp only [if_neg (Nat.succ_ne_zero 3), if_true]
  rw [best_next, e]

/-- Where no feature is -∞, the maximum with 0 may be taken row by row. -/
theorem finish_best (hf : ∀ n j, ⊥ < feat m c n j) (s : Fin 16) (j : Fin 128) :
    finish (best m c (fun _ => True) s j)
      = Finset.univ.sup fun n : Fin 100000 =>
          if (arg2 m c (ix1 n) : BitVec 32) = BitVec.ofNat 32 s.val then max (feat m c n j) 0 else ⊥ := by
  unfold finish
  refine le_antisymm ?_ (Finset.sup_le fun n _ => ?_)
  · split_ifs with h
    · exact bot_le
    · have hle : ∀ n : Fin 100000, (arg2 m c (ix1 n) : BitVec 32) = BitVec.ofNat 32 s.val → max (feat m c n j) 0
          ≤ Finset.univ.sup fun n : Fin 100000 =>
            if (arg2 m c (ix1 n) : BitVec 32) = BitVec.ofNat 32 s.val then max (feat m c n j) 0 else ⊥ := fun n hn =>
        (le_of_eq (if_pos hn).symm).trans (Finset.le_sup (f := fun n : Fin 100000 =>
          if (arg2 m c (ix1 n) : BitVec 32) = BitVec.ofNat 32 s.val then max (feat m c n j) 0 else ⊥) (Finset.mem_univ n))
      refine max_le (best_le m c fun n _ hn => (le_max_left _ _).trans (hle n hn)) ?_
      by_contra hn
      refine h (le_antisymm (best_le m c fun n _ hs => absurd ((le_max_right _ _).trans (hle n hs)) hn) bot_le)
  · split_ifs with hn h
    · exact absurd (le_trans (le_best m c _ s j n trivial hn) h.le) (not_le.mpr (hf n j))
    · exact max_le_max (le_best m c _ s j n trivial hn) le_rfl
    · exact bot_le
    · exact bot_le

end Cert.KernelIdeal.Seg

end
-- ==== Proof.Reference.lean ====
module

public import proofs.«01_k».proof.Proof.Gen.ReferenceIdeal.Run
public import proofs.«01_k».proof.Proof.Value
public import proofs.«01_k».proof.Pre_sorted_and_above_minus_infinity

/-! # The reference's first result, and the kernel's against it

The reference's features and segment maxima, read at a place; what the precondition says at a place; and the equality
of the kernel's first result with the reference's under it. -/

@[expose] public section

set_option maxRecDepth 16384

noncomputable section

namespace Cert.ReferenceIdeal.Place

open Idealize.ShloMosaic Idealize.ShloMosaic.TcCoe Idealize.SL.Sem
open Cert.ReferenceIdeal Cert.ReferenceIdeal.Gen

variable (x : FVec Ideal S100000x128 .f32) (p : FVec Ideal S100000x3 .f32) (b : IVec S100000 32)
  (W : FVec Ideal S131x128 .f32) (β : FVec Ideal S128 .f32)

/-- The rows' features before the maximum with 0. -/
def dense : FVec Ideal S100000x128 .f32 :=
  addf (Host.dotGeneral dot_S100000x131_S131x128_S100000x128_1_0_0_1_n_n none
      (concatenate S100000x131 1 [⟨S100000x128, x⟩, ⟨S100000x3, p⟩] concatenates_S100000x128_S100000x3_S100000x131_d1) W)
    (broadcastInDim S100000x128 ![0, 1] bcast_S1x128_S100000x128_0_1 (broadcastInDim S1x128 ![1] bcast_S128_S1x128_1 β))

theorem dense_apply (n : Fin 100000) (j : Fin 128) :
    dense x p W β (ix2 n j) = (∑ k : Fin 128, x (ix2 n k) * W (ix2 ⟨k.val, by omega⟩ j))
      + (∑ k : Fin 3, p (ix2 n k) * W (ix2 ⟨128 + k.val, by omega⟩ j)) + β (ix1 j) := by
  pointwise [dense]

/-- Which rows are of which segment. -/
def mask : IVec S16x100000x128 1 :=
  broadcastInDim S16x100000x128 ![0, 1, 2] bcast_S16x100000x1_S16x100000x128_0_1_2
    (broadcastInDim S16x100000x1 ![0, 1] bcast_S16x100000_S16x100000x1_0_1
      (cmpi .eq (broadcastInDim S16x100000 ![0, 1] bcast_S1x100000_S16x100000_0_1 (broadcastInDim S1x100000 ![1] bcast_S100000_S1x100000_1 b))
        (broadcastInDim S16x100000 ![0, 1] bcast_S16x1_S16x100000_0_1 (broadcastInDim S16x1 ![0] bcast_S16_S16x1_0 (iotaInDim S16 32 0)))))

/-- Each segment's greatest features. -/
def pooled : FVec Ideal S16x128 .f32 :=
  Host.reduce FloatOps.maximumf
    (select (mask b)
      (broadcastInDim S16x100000x128 ![0, 1, 2] bcast_S1x100000x128_S16x100000x128_0_1_2
        (broadcastInDim S1x100000x128 ![1, 2] bcast_S100000x128_S1x100000x128_1_2
          (maximumf (dense x p W β) (broadcastInDim S100000x128 ![] bcast_S_S100000x128 (constant S_ .f32 0x00000000#32)))))
      (broadcastInDim S16x100000x128 ![] bcast_S_S16x100000x128 (id (constant S_ .f32 0xFF800000#32))))
    (constant S_ .f32 0xFF800000#32) reducesTo_S16x100000x128_S16x128_d1 h_S_

theorem pooled_apply (s : Fin 16) (j : Fin 128) :
    pooled x p b W β (ix2 s j) = Finset.univ.sup fun n : Fin 100000 =>
      if b (ix1 n) = BitVec.ofNat 32 s.val then max (dense x p W β (ix2 n j)) 0 else ⊥ := by
  pointwise [pooled, mask]
  rw [show (id (constant (F := Ideal) S_ .f32 0xFF800000#32) ix0) = (⊥ : EReal) from Cert.KernelIdeal.Seg.ofBits_bot,
    Cert.KernelIdeal.Seg.ofBits_bot]
  simp only [Cert.KernelIdeal.Seg.select_if, WordCmp.cmpi_eq_eq, WordCmp.ofBool_decide_eq_one_iff]
  rfl

open Cert.KernelIdeal.Seg in
/-- The kernel's features are the reference's. -/
theorem feat_eq (m : (ℓ : Loc Cert.KernelIdeal.nD Cert.KernelIdeal.τ Cert.KernelIdeal.sig) → Buf (Elt Ideal) ℓ)
    (c : Dev Cert.KernelIdeal.nD) (n : Fin 100000) (j : Fin 128) :
    feat m c n j = dense (arg0 m c) (arg1 m c) (arg3 m c) (arg4 m c) (ix2 n j) := by
  have tail : (∑ k : Fin 4, (if h : k.val < 3 then arg1 m c (ix2 n ⟨k.val, h⟩) else (1 : EReal))
        * (if h : k.val < 3 then arg3 m c (ix2 ⟨128 + k.val, by omega⟩ j) else arg4 m c (ix1 j)))
      = (∑ k : Fin 3, arg1 m c (ix2 n k) * arg3 m c (ix2 ⟨128 + k.val, by omega⟩ j)) + arg4 m c (ix1 j) := by
    rw [Fin.sum_univ_castSucc]
    congr 1
    exact one_mul _
  rw [dense_apply, add_assoc]
  exact congrArg _ tail

/-- The precondition at one place. -/
theorem pre_apply [Cert.Pre_sorted_and_above_minus_infinity.Facts] (n : Fin 100000) (j : Fin 128)
    (h : Cert.Pre_sorted_and_above_minus_infinity.fn (F := Ideal) x p b W β (ix2 n j) = 1#1) :
    (∀ n' : Fin 100000, n'.val + 1 = n.val → (b (ix1 n')).toInt ≤ (b (ix1 n)).toInt)
      ∧ (⊥ : EReal) < dense x p W β (ix2 n j) := by
  rw [dense_apply]
  pointwise [Cert.Pre_sorted_and_above_minus_infinity.fn] at h
  rw [Cert.KernelIdeal.Seg.andi_one, WordCmp.cmpi_sle_eq, WordCmp.ofBool_decide_eq_one_iff, WordCmp.ofBool_decide_eq_one_iff,
    Cert.KernelIdeal.Seg.ofBits_bot] at h
  refine ⟨fun n' e => ?_, h.2⟩
  have h1 := h.1
  rw [dif_neg (by omega)] at h1
  rwa [show n' = ⟨n.val - 1, by omega⟩ from Fin.ext (by dsimp only; omega)]

open Cert.KernelIdeal.Seg in
/-- Rows each of which has a segment number at least that of the row before it are in order. -/
theorem ordered_of_steps (m : (ℓ : Loc Cert.KernelIdeal.nD Cert.KernelIdeal.τ Cert.KernelIdeal.sig) → Buf (Elt Ideal) ℓ)
    (c : Dev Cert.KernelIdeal.nD)
    (h : ∀ n n' : Fin 100000, n'.val + 1 = n.val →
      (arg2 m c (ix1 n') : BitVec 32).toInt ≤ (arg2 m c (ix1 n) : BitVec 32).toInt) : Ordered m c := by
  have step : ∀ (d a : Nat) (ha : a + d < 100000),
      (arg2 m c (ix1 ⟨a, by omega⟩) : BitVec 32).toInt ≤ (arg2 m c (ix1 ⟨a + d, ha⟩) : BitVec 32).toInt := by
    intro d
    induction d with
    | zero => exact fun a ha => le_refl _
    | succ d ih => exact fun a ha => (ih a (by omega)).trans (h ⟨a + (d + 1), ha⟩ ⟨a + d, by omega⟩ rfl)
  intro n n' e
  have := step (n'.val - n.val) n.val (by have := n'.isLt; have : n.val ≤ n'.val := e; omega)
  rwa [show (⟨n.val + (n'.val - n.val), _⟩ : Fin 100000) = n' from
    Fin.ext (by have : n.val ≤ n'.val := e; dsimp only; omega)] at this

open Cert.KernelIdeal.Seg in
/-- Of arguments in order with features above minus infinity, the kernel's first result is the reference's. -/
theorem out_eq_pooled (m : (ℓ : Loc Cert.KernelIdeal.nD Cert.KernelIdeal.τ Cert.KernelIdeal.sig) → Buf (Elt Ideal) ℓ)
    (c : Dev Cert.KernelIdeal.nD) (ho : Ordered m c) (hf : ∀ n j, (⊥ : EReal) < feat m c n j) :
    outAt m c 4 (lt_N 4 (by decide)) = pooled (arg0 m c) (arg1 m c) (arg2 m c) (arg3 m c) (arg4 m c) := by
  have key : ∀ (s : Fin 16) (j : Fin 128), outAt m c 4 (lt_N 4 (by decide)) (ix2 s j)
      = pooled (arg0 m c) (arg1 m c) (arg2 m c) (arg3 m c) (arg4 m c) (ix2 s j) := by
    intro s j
    rw [out_apply m c ho, finish_best m c hf, pooled_apply]
    simp only [feat_eq]
  funext y
  rw [eq_ix2 y]
  exact key (y 0) (y 1)

end Cert.ReferenceIdeal.Place

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Region
public import proofs.«01_k».proof.Proof.Region
public import proofs.«01_k».proof.Proof.Gen.Pre_sorted_and_above_minus_infinity
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference keeps its arguments; it has no semaphore. -/
theorem reference_frame : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- What the precondition says of one device's arguments: the segment numbers are in order, and every
    feature lies above minus infinity. -/
theorem pre_reads (m : (ℓ : Loc Cert.KernelIdeal.nD Cert.KernelIdeal.τ Cert.KernelIdeal.sig) → Buf (Elt Ideal) ℓ)
    (h : Cert.Pre_KernelIdeal_sorted_and_above_minus_infinity m) (c : Dev Cert.KernelIdeal.nD) :
    Cert.KernelIdeal.Seg.Ordered m c ∧ ∀ n j, (⊥ : EReal) < Cert.KernelIdeal.Seg.feat m c n j := by
  have at_place := fun (n : Fin 100000) (j : Fin 128) =>
    Cert.ReferenceIdeal.Place.pre_apply (Cert.KernelIdeal.Seg.arg0 m c) (Cert.KernelIdeal.Seg.arg1 m c)
      (Cert.KernelIdeal.Seg.arg2 m c) (Cert.KernelIdeal.Seg.arg3 m c) (Cert.KernelIdeal.Seg.arg4 m c) n j
      (congrFun (h c) (ix2 n j))
  refine ⟨Cert.ReferenceIdeal.Place.ordered_of_steps m c fun n n' e => (at_place n 0).1 n' e, fun n j => ?_⟩
  rw [Cert.ReferenceIdeal.Place.feat_eq]
  exact (at_place n j).2

/-- The kernel's three results are the reference's. -/
theorem algebraic : Cert.algebraic_KernelIdeal_ReferenceIdeal_pre_sorted_and_above_minus_infinity := by
  intro m g m' g' h agree
  refine ⟨_, _, _, Cert.KernelIdeal.Seg.results_run m g
    (Cert.KernelIdeal.Seg.step_junk m fun c => (pre_reads m h c).1), ?_⟩
  refine (θ_run Cert.ReferenceIdeal.defs _ _).mono (fun r k c => ?_) (Cert.ReferenceIdeal.Value.run (F := Ideal) m' g')
  obtain ⟨a0, a1, a2, a3, a4⟩ := agree c
  refine ⟨(k c).1.trans ?_, (k c).2.1, (k c).2.2.1, (k c).2.2.2⟩
  rw [a0, a1, a2, a3, a4]
  exact (Cert.ReferenceIdeal.Place.out_eq_pooled m c (pre_reads m h c).1 (pre_reads m h c).2).symm

theorem claim : Cert.Claim :=
  ⟨Cert.Kernel.Gen.facts, Cert.KernelIdeal.Gen.facts, Cert.ReferenceIdeal.Gen.facts,
    Cert.Pre_sorted_and_above_minus_infinity.Gen.facts,
    fun m ρ _ => Cert.Kernel.Seg.frame_run m ρ, fun m ρ _ => Cert.KernelIdeal.Seg.frame_run m ρ,
    fun m ρ _ => Cert.KernelIdeal.Seg.frame_run m ρ,
    reference_frame, fun m ρ _ => reference_frame m ρ trivial, trivial, algebraic⟩

end Cert.Proof

end
